-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn_as_inputs [hPre_drawn_as_inputs : Cert.Pre_drawn_as_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_as_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn_as_inputs [hPre_drawn_as_inputs : Cert.Pre_drawn_as_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn_as_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_drawn_as_inputs [hKernelIdeal : Cert.KernelIdeal.Facts] [hPre_drawn_as_inputs : Cert.Pre_drawn_as_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_as_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_drawn_as_inputs [hReferenceIdeal : Cert.ReferenceIdeal.Facts] [hPre_drawn_as_inputs : Cert.Pre_drawn_as_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn_as_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_drawn_as_inputs [hKernelIdeal : Cert.KernelIdeal.Facts] [hReferenceIdeal : Cert.ReferenceIdeal.Facts] [hPre_drawn_as_inputs : Cert.Pre_drawn_as_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn_as_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v414) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_drawn_as_inputs : Cert.Pre_drawn_as_inputs.Facts),
    quiescent_Kernel (hKernel := hKernel)
    ∧ quiescent_KernelIdeal (hKernelIdeal := hKernelIdeal)
    ∧ quiescent_KernelIdeal_pre_drawn_as_inputs (hKernelIdeal := hKernelIdeal) (hPre_drawn_as_inputs := hPre_drawn_as_inputs)
    ∧ quiescent_ReferenceIdeal (hReferenceIdeal := hReferenceIdeal)
    ∧ quiescent_ReferenceIdeal_pre_drawn_as_inputs (hReferenceIdeal := hReferenceIdeal) (hPre_drawn_as_inputs := hPre_drawn_as_inputs)
    ∧ preserves_Kernel_KernelIdeal
    ∧ algebraic_KernelIdeal_ReferenceIdeal_pre_drawn_as_inputs (hKernelIdeal := hKernelIdeal) (hReferenceIdeal := hReferenceIdeal) (hPre_drawn_as_inputs := hPre_drawn_as_inputs)
-- ==== Pre_drawn_as_inputs.lean ====
abbrev S4x128x128 : Shape := ⟨3, ![4, 128, 128]⟩
abbrev S4x128 : Shape := ⟨2, ![4, 128]⟩
abbrev S4x64x128 : Shape := ⟨3, ![4, 64, 128]⟩
abbrev S4x64 : Shape := ⟨2, ![4, 64]⟩
abbrev S4x64x1 : Shape := ⟨3, ![4, 64, 1]⟩
abbrev S4x64x256 : Shape := ⟨3, ![4, 64, 256]⟩
abbrev S4x64x2 : Shape := ⟨3, ![4, 64, 2]⟩
abbrev S4x128x2 : Shape := ⟨3, ![4, 128, 2]⟩
abbrev S4x128x1 : Shape := ⟨3, ![4, 128, 1]⟩
abbrev S2x128x128 : Shape := ⟨3, ![2, 128, 128]⟩
abbrev S2x128x256 : Shape := ⟨3, ![2, 128, 256]⟩
abbrev S2x256 : Shape := ⟨2, ![2, 256]⟩
abbrev S2x256x128 : Shape := ⟨3, ![2, 256, 128]⟩
abbrev S2x128 : Shape := ⟨2, ![2, 128]⟩
abbrev S_ : Shape := ⟨0, ![]⟩

class Facts : Prop where
  shapeCasts_S4x64x1_S4x64 : S4x64x1.ShapeCasts S4x64
  slices_S4x64x2_S4x64x1_0_0_0 : S4x64x2.Slices ![0, 0, 0] S4x64x1
  slices_S4x64x2_S4x64x1_0_0_1 : S4x64x2.Slices ![0, 0, 1] S4x64x1
  bcast_S_S4x64 : S_.BroadcastsInDim S4x64 (![] : Fin 0 → Fin S4x64.rank)

variable [Facts]

def fn_part1 {F : FTy → Type} [FloatOps F] (main_v4 : IVec S4x64 32) (main_v17 : IVec S4x64 1) (main_v18 : IVec S4x64 32) : IVec S4x64 1 :=
  let main_v19 : IVec S4x64 1 := cmpi .sge main_v4 main_v18
  let main_v20 : IVec S4x64 1 := andi main_v17 main_v19
  let main_c_4 : IVec S_ 32 := constantI S_ 32 128#32
  let main_v21 : IVec S4x64 32 := broadcastInDim S4x64 ![] bcast_S_S4x64 main_c_4
  let main_v22 : IVec S4x64 1 := cmpi .slt main_v4 main_v21
  let main_v23 : IVec S4x64 1 := andi main_v20 main_v22
  main_v23

def fn {F : FTy → Type} [FloatOps F] (main_arg0 : FVec F S4x128x128 .f32) (main_arg1 : IVec S4x128 1) (main_arg2 : FVec F S4x64x128 .f32) (main_arg3 : IVec S4x64 1) (main_arg4 : IVec S4x64x1 32) (main_arg5 : FVec F S4x64x256 .f32) (main_arg6 : IVec S4x64 1) (main_arg7 : IVec S4x64x2 32) (main_arg8 : FVec F S4x128x2 .f32) (main_arg9 : FVec F S4x128x1 .f32) (main_arg10 : FVec F S2x128x128 .f32) (main_arg11 : FVec F S2x128x128 .f32) (main_arg12 : FVec F S2x128x128 .f32) (main_arg13 : FVec F S2x128x128 .f32) (main_arg14 : FVec F S2x128x128 .f32) (main_arg15 : FVec F S2x128x128 .f32) (main_arg16 : FVec F S2x128x256 .f32) (main_arg17 : FVec F S2x256 .f32) (main_arg18 : FVec F S2x256x128 .f32) (main_arg19 : FVec F S2x128 .f32) : IVec S4x64 1 :=
  let main_v0 : IVec S4x64 32 := shapeCast S4x64 main_arg4 shapeCasts_S4x64x1_S4x64
  let main_v1 : IVec S4x64x1 32 := (extractStridedSlice S4x64x1 ![0, 0, 0] · slices_S4x64x2_S4x64x1_0_0_0) main_arg7
  let main_v2 : IVec S4x64 32 := shapeCast S4x64 main_v1 shapeCasts_S4x64x1_S4x64
  let main_v3 : IVec S4x64x1 32 := (extractStridedSlice S4x64x1 ![0, 0, 1] · slices_S4x64x2_S4x64x1_0_0_1) main_arg7
  let main_v4 : IVec S4x64 32 := shapeCast S4x64 main_v3 shapeCasts_S4x64x1_S4x64
  let main_v5 : IVec S4x64 1 := andi main_arg3 main_arg6
  let main_c : IVec S_ 32 := constantI S_ 32 0#32
  let main_v6 : IVec S4x64 32 := broadcastInDim S4x64 ![] bcast_S_S4x64 main_c
  let main_v7 : IVec S4x64 1 := cmpi .sge main_v0 main_v6
  let main_v8 : IVec S4x64 1 := andi main_v5 main_v7
  let main_c_0 : IVec S_ 32 := constantI S_ 32 128#32
  let main_v9 : IVec S4x64 32 := broadcastInDim S4x64 ![] bcast_S_S4x64 main_c_0
  let main_v10 : IVec S4x64 1 := cmpi .slt main_v0 main_v9
  let main_v11 : IVec S4x64 1 := andi main_v8 main_v10
  let main_c_1 : IVec S_ 32 := constantI S_ 32 0#32
  let main_v12 : IVec S4x64 32 := broadcastInDim S4x64 ![] bcast_S_S4x64 main_c_1
  let main_v13 : IVec S4x64 1 := cmpi .sge main_v2 main_v12
  let main_v14 : IVec S4x64 1 := andi main_v11 main_v13
  let main_c_2 : IVec S_ 32 := constantI S_ 32 128#32
  let main_v15 : IVec S4x64 32 := broadcastInDim S4x64 ![] bcast_S_S4x64 main_c_2
  let main_v16 : IVec S4x64 1 := cmpi .slt main_v2 main_v15
  let main_v17 : IVec S4x64 1 := andi main_v14 main_v16
  let main_c_3 : IVec S_ 32 := constantI S_ 32 0#32
  let main_v18 : IVec S4x64 32 := broadcastInDim S4x64 ![] bcast_S_S4x64 main_c_3
  fn_part1 (F := F) main_v4 main_v17 main_v18
-- ==== Kernel.lean ====
abbrev S4x128x128 : Shape := ⟨3, ![4, 128, 128]⟩
abbrev S4x128 : Shape := ⟨2, ![4, 128]⟩
abbrev S4x64x128 : Shape := ⟨3, ![4, 64, 128]⟩
abbrev S4x64 : Shape := ⟨2, ![4, 64]⟩
abbrev S4x64x1 : Shape := ⟨3, ![4, 64, 1]⟩
abbrev S4x64x256 : Shape := ⟨3, ![4, 64, 256]⟩
abbrev S4x64x2 : Shape := ⟨3, ![4, 64, 2]⟩
abbrev S4x128x2 : Shape := ⟨3, ![4, 128, 2]⟩
abbrev S4x128x1 : Shape := ⟨3, ![4, 128, 1]⟩
abbrev S2x128x128 : Shape := ⟨3, ![2, 128, 128]⟩
abbrev S2x128x256 : Shape := ⟨3, ![2, 128, 256]⟩
abbrev S2x256 : Shape := ⟨2, ![2, 256]⟩
abbrev S2x256x128 : Shape := ⟨3, ![2, 256, 128]⟩
abbrev S2x128 : Shape := ⟨2, ![2, 128]⟩
abbrev S4x192 : Shape := ⟨2, ![4, 192]⟩
abbrev S_ : Shape := ⟨0, ![]⟩
abbrev S4x192x1 : Shape := ⟨3, ![4, 192, 1]⟩
abbrev S4x1x192 : Shape := ⟨3, ![4, 1, 192]⟩
abbrev S4x192x128 : Shape := ⟨3, ![4, 192, 128]⟩
abbrev S4x128x5 : Shape := ⟨3, ![4, 128, 5]⟩
abbrev S4x128x8 : Shape := ⟨3, ![4, 128, 8]⟩
abbrev S16 : Shape := ⟨1, ![16]⟩
abbrev S32 : Shape := ⟨1, ![32]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S2x1x256 : Shape := ⟨3, ![2, 1, 256]⟩
abbrev S2x1x128 : Shape := ⟨3, ![2, 1, 128]⟩
abbrev S1x128x128 : Shape := ⟨3, ![1, 128, 128]⟩
abbrev S1x128x1 : Shape := ⟨3, ![1, 128, 1]⟩
abbrev S1x192x128 : Shape := ⟨3, ![1, 192, 128]⟩
abbrev S1x192x1 : Shape := ⟨3, ![1, 192, 1]⟩
abbrev S1x1x192 : Shape := ⟨3, ![1, 1, 192]⟩
abbrev S1x128x8 : Shape := ⟨3, ![1, 128, 8]⟩
abbrev S128x128 : Shape := ⟨2, ![128, 128]⟩
abbrev S192x128 : Shape := ⟨2, ![192, 128]⟩
abbrev S192x1 : Shape := ⟨2, ![192, 1]⟩
abbrev S1x192 : Shape := ⟨2, ![1, 192]⟩
abbrev S128x8 : Shape := ⟨2, ![128, 8]⟩
abbrev S8x128 : Shape := ⟨2, ![8, 128]⟩
abbrev S192x192 : Shape := ⟨2, ![192, 192]⟩
abbrev S192 : Shape := ⟨1, ![192]⟩
abbrev S192x8 : Shape := ⟨2, ![192, 8]⟩
abbrev S192x4 : Shape := ⟨2, ![192, 4]⟩
abbrev S192x1x128 : Shape := ⟨3, ![192, 1, 128]⟩
abbrev S192x8x1 : Shape := ⟨3, ![192, 8, 1]⟩
abbrev S192x8x128 : Shape := ⟨3, ![192, 8, 128]⟩
abbrev S128x1 : Shape := ⟨2, ![128, 1]⟩
abbrev S1x128x256 : Shape := ⟨3, ![1, 128, 256]⟩
abbrev S128x256 : Shape := ⟨2, ![128, 256]⟩
abbrev S1x1x256 : Shape := ⟨3, ![1, 1, 256]⟩
abbrev S1x256 : Shape := ⟨2, ![1, 256]⟩
abbrev S1x256x128 : Shape := ⟨3, ![1, 256, 128]⟩
abbrev S256x128 : Shape := ⟨2, ![256, 128]⟩
abbrev S1x1x128 : Shape := ⟨3, ![1, 1, 128]⟩

abbrev nBuf : Space → Nat
  | .hbm => 66
  | .vmem => 29
  | .smem => 0
  | _ => 0

abbrev bufTy : (tb : Table) → Fin (tcTables nBuf tb) → BufTy
  | .hbm, ⟨0, _⟩ => ⟨S4x128x128, .f32⟩
  | .hbm, ⟨1, _⟩ => ⟨S4x128, .i1⟩
  | .hbm, ⟨2, _⟩ => ⟨S4x64x128, .f32⟩
  | .hbm, ⟨3, _⟩ => ⟨S4x64, .i1⟩
  | .hbm, ⟨4, _⟩ => ⟨S4x64x1, .i32⟩
  | .hbm, ⟨5, _⟩ => ⟨S4x64x256, .f32⟩
  | .hbm, ⟨6, _⟩ => ⟨S4x64, .i1⟩
  | .hbm, ⟨7, _⟩ => ⟨S4x64x2, .i32⟩
  | .hbm, ⟨8, _⟩ => ⟨S4x128x2, .f32⟩
  | .hbm, ⟨9, _⟩ => ⟨S4x128x1, .f32⟩
  | .hbm, ⟨10, _⟩ => ⟨S2x128x128, .f32⟩
  | .hbm, ⟨11, _⟩ => ⟨S2x128x128, .f32⟩
  | .hbm, ⟨12, _⟩ => ⟨S2x128x128, .f32⟩
  | .hbm, ⟨13, _⟩ => ⟨S2x128x128, .f32⟩
  | .hbm, ⟨14, _⟩ => ⟨S2x128x128, .f32⟩
  | .hbm, ⟨15, _⟩ => ⟨S2x128x128, .f32⟩
  | .hbm, ⟨16, _⟩ => ⟨S2x128x256, .f32⟩
  | .hbm, ⟨17, _⟩ => ⟨S2x256, .f32⟩
  | .hbm, ⟨18, _⟩ => ⟨S2x256x128, .f32⟩
  | .hbm, ⟨19, _⟩ => ⟨S2x128, .f32⟩
  | .hbm, ⟨20, _⟩ => ⟨S4x64, .i32⟩
  | .hbm, ⟨21, _⟩ => ⟨S4x64x1, .i32⟩
  | .hbm, ⟨22, _⟩ => ⟨S4x64, .i32⟩
  | .hbm, ⟨23, _⟩ => ⟨S4x64x1, .i32⟩
  | .hbm, ⟨24, _⟩ => ⟨S4x64, .i32⟩
  | .hbm, ⟨25, _⟩ => ⟨S4x192, .i32⟩
  | .hbm, ⟨26, _⟩ => ⟨S4x192, .i32⟩
  | .hbm, ⟨27, _⟩ => ⟨S_, .i32⟩
  | .hbm, ⟨28, _⟩ => ⟨S4x192, .i32⟩
  | .hbm, ⟨29, _⟩ => ⟨S4x192, .i32⟩
  | .hbm, ⟨30, _⟩ => ⟨S4x192, .i32⟩
  | .hbm, ⟨31, _⟩ => ⟨S4x192, .f32⟩
  | .hbm, ⟨32, _⟩ => ⟨S4x192, .f32⟩
  | .hbm, ⟨33, _⟩ => ⟨S4x192x1, .f32⟩
  | .hbm, ⟨34, _⟩ => ⟨S4x192, .f32⟩
  | .hbm, ⟨35, _⟩ => ⟨S4x192x1, .f32⟩
  | .hbm, ⟨36, _⟩ => ⟨S4x192x1, .f32⟩
  | .hbm, ⟨37, _⟩ => ⟨S4x1x192, .f32⟩
  | .hbm, ⟨38, _⟩ => ⟨S4x64x128, .f32⟩
  | .hbm, ⟨39, _⟩ => ⟨S4x64x128, .f32⟩
  | .hbm, ⟨40, _⟩ => ⟨S4x192x128, .f32⟩
  | .hbm, ⟨41, _⟩ => ⟨S_, .f32⟩
  | .hbm, ⟨42, _⟩ => ⟨S4x128x5, .f32⟩
  | .hbm, ⟨43, _⟩ => ⟨S4x128x8, .f32⟩
  | .hbm, ⟨44, _⟩ => ⟨S4x128, .f32⟩
  | .hbm, ⟨45, _⟩ => ⟨S4x128x1, .f32⟩
  | .hbm, ⟨46, _⟩ => ⟨S16, .i32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S32, .f32⟩
  | .hbm, ⟨58, _⟩ => ⟨S1x32, .f32⟩
  | .hbm, ⟨59, _⟩ => ⟨S4x32, .f32⟩
  | .hbm, ⟨60, _⟩ => ⟨S128, .f32⟩
  | .hbm, ⟨61, _⟩ => ⟨S1x128, .f32⟩
  | .hbm, ⟨62, _⟩ => ⟨S1x128, .f32⟩
  | .hbm, ⟨63, _⟩ => ⟨S2x1x256, .f32⟩
  | .hbm, ⟨64, _⟩ => ⟨S2x1x128, .f32⟩
  | .hbm, ⟨65, _⟩ => ⟨S4x128x128, .f32⟩
  | .local _ .vmem, ⟨0, _⟩ => ⟨S1x128x128, .f32⟩
  | .local _ .vmem, ⟨1, _⟩ => ⟨S1x128x128, .f32⟩
  | .local _ .vmem, ⟨2, _⟩ => ⟨S1x128x1, .f32⟩
  | .local _ .vmem, ⟨3, _⟩ => ⟨S1x128x1, .f32⟩
  | .local _ .vmem, ⟨4, _⟩ => ⟨S1x192x128, .f32⟩
  | .local _ .vmem, ⟨5, _⟩ => ⟨S1x192x128, .f32⟩
  | .local _ .vmem, ⟨6, _⟩ => ⟨S1x192x1, .f32⟩
  | .local _ .vmem, ⟨7, _⟩ => ⟨S1x192x1, .f32⟩
  | .local _ .vmem, ⟨8, _⟩ => ⟨S1x192x1, .f32⟩
  | .local _ .vmem, ⟨9, _⟩ => ⟨S1x192x1, .f32⟩
  | .local _ .vmem, ⟨10, _⟩ => ⟨S1x192x1, .f32⟩
  | .local _ .vmem, ⟨11, _⟩ => ⟨S1x192x1, .f32⟩
  | .local _ .vmem, ⟨12, _⟩ => ⟨S1x1x192, .f32⟩
  | .local _ .vmem, ⟨13, _⟩ => ⟨S1x1x192, .f32⟩
  | .local _ .vmem, ⟨14, _⟩ => ⟨S1x128x8, .f32⟩
  | .local _ .vmem, ⟨15, _⟩ => ⟨S1x128x8, .f32⟩
  | .local _ .vmem, ⟨16, _⟩ => ⟨S1x128, .f32⟩
  | .local _ .vmem, ⟨17, _⟩ => ⟨S2x128x128, .f32⟩
  | .local _ .vmem, ⟨18, _⟩ => ⟨S2x128x128, .f32⟩
  | .local _ .vmem, ⟨19, _⟩ => ⟨S2x128x128, .f32⟩
  | .local _ .vmem, ⟨20, _⟩ => ⟨S2x128x128, .f32⟩
  | .local _ .vmem, ⟨21, _⟩ => ⟨S2x128x128, .f32⟩
  | .local _ .vmem, ⟨22, _⟩ => ⟨S2x128x128, .f32⟩
  | .local _ .vmem, ⟨23, _⟩ => ⟨S2x128x256, .f32⟩
  | .local _ .vmem, ⟨24, _⟩ => ⟨S2x1x256, .f32⟩
  | .local _ .vmem, ⟨25, _⟩ => ⟨S2x256x128, .f32⟩
  | .local _ .vmem, ⟨26, _⟩ => ⟨S2x1x128, .f32⟩
  | .local _ .vmem, ⟨27, _⟩ => ⟨S1x128x128, .f32⟩
  | .local _ .vmem, ⟨28, _⟩ => ⟨S1x128x128, .f32⟩
  | _, _ => ⟨S4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_0 : Ref sig .tc := ⟨.hbm, 48, rfl⟩
abbrev main_v26 : Ref sig .tc := ⟨.hbm, 49, rfl⟩
abbrev main_v27 : Ref sig .tc := ⟨.hbm, 50, rfl⟩
abbrev main_cst_1 : Ref sig .tc := ⟨.hbm, 51, rfl⟩
abbrev main_v28 : Ref sig .tc := ⟨.hbm, 52, rfl⟩
abbrev main_v29 : Ref sig .tc := ⟨.hbm, 53, rfl⟩
abbrev main_cst_2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg19_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem19_1 : DmaSem sig := 28

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x192x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x192x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x192x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x256x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1x128x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4x128x128 : Shape := ⟨3, ![4, 128, 128]⟩
abbrev S4x128 : Shape := ⟨2, ![4, 128]⟩
abbrev S4x64x128 : Shape := ⟨3, ![4, 64, 128]⟩
abbrev S4x64 : Shape := ⟨2, ![4, 64]⟩
abbrev S4x64x1 : Shape := ⟨3, ![4, 64, 1]⟩
abbrev S4x64x256 : Shape := ⟨3, ![4, 64, 256]⟩
abbrev S4x64x2 : Shape := ⟨3, ![4, 64, 2]⟩
abbrev S4x128x2 : Shape := ⟨3, ![4, 128, 2]⟩
abbrev S4x128x1 : Shape := ⟨3, ![4, 128, 1]⟩
abbrev S2x128x128 : Shape := ⟨3, ![2, 128, 128]⟩
abbrev S2x128x256 : Shape := ⟨3, ![2, 128, 256]⟩
abbrev S2x256 : Shape := ⟨2, ![2, 256]⟩
abbrev S2x256x128 : Shape := ⟨3, ![2, 256, 128]⟩
abbrev S2x128 : Shape := ⟨2, ![2, 128]⟩
abbrev S_ : Shape := ⟨0, ![]⟩
abbrev S4x128x128x2x128 : Shape := ⟨5, ![4, 128, 128, 2, 128]⟩
abbrev S4x128x128x2 : Shape := ⟨4, ![4, 128, 128, 2]⟩
abbrev S4 : Shape := ⟨1, ![4]⟩
abbrev S256 : Shape := ⟨1, ![256]⟩
abbrev S256x128 : Shape := ⟨2, ![256, 128]⟩
abbrev S256x1 : Shape := ⟨2, ![256, 1]⟩
abbrev S256x4 : Shape := ⟨2, ![256, 4]⟩
abbrev S4x128x128x128 : Shape := ⟨4, ![4, 128, 128, 128]⟩
abbrev S4x128x128x1 : Shape := ⟨4, ![4, 128, 128, 1]⟩
abbrev S4x1x128x2 : Shape := ⟨4, ![4, 1, 128, 2]⟩
abbrev S4x128x1x2 : Shape := ⟨4, ![4, 128, 1, 2]⟩
abbrev S4x1x128 : Shape := ⟨3, ![4, 1, 128]⟩
abbrev S4x128x1x1 : Shape := ⟨4, ![4, 128, 1, 1]⟩
abbrev S4x128x128x4 : Shape := ⟨4, ![4, 128, 128, 4]⟩
abbrev S16 : Shape := ⟨1, ![16]⟩
abbrev S4x128x128x4x1 : Shape := ⟨5, ![4, 128, 128, 4, 1]⟩
abbrev S1x1x1x1x16 : Shape := ⟨5, ![1, 1, 1, 1, 16]⟩
abbrev S4x128x128x4x16 : Shape := ⟨5, ![4, 128, 128, 4, 16]⟩
abbrev S4x128x128x4x32 : Shape := ⟨5, ![4, 128, 128, 4, 32]⟩
abbrev S1x128x128 : Shape := ⟨3, ![1, 128, 128]⟩
abbrev S128x128 : Shape := ⟨2, ![128, 128]⟩
abbrev S4x128x8x16 : Shape := ⟨4, ![4, 128, 8, 16]⟩
abbrev S4x1x128x128 : Shape := ⟨4, ![4, 1, 128, 128]⟩
abbrev S4x128x128x8x16 : Shape := ⟨5, ![4, 128, 128, 8, 16]⟩
abbrev S4x128x8x128 : Shape := ⟨4, ![4, 128, 8, 128]⟩
abbrev S4x128x128x8 : Shape := ⟨4, ![4, 128, 128, 8]⟩
abbrev S4x128x8 : Shape := ⟨3, ![4, 128, 8]⟩
abbrev S4x128x1x8 : Shape := ⟨4, ![4, 128, 1, 8]⟩
abbrev S1x128x256 : Shape := ⟨3, ![1, 128, 256]⟩
abbrev S128x256 : Shape := ⟨2, ![128, 256]⟩
abbrev S4x128x256 : Shape := ⟨3, ![4, 128, 256]⟩
abbrev S1x256 : Shape := ⟨2, ![1, 256]⟩
abbrev S1x1x256 : Shape := ⟨3, ![1, 1, 256]⟩
abbrev S1x256x128 : Shape := ⟨3, ![1, 256, 128]⟩
abbrev S1x128 : Shape := ⟨2, ![1, 128]⟩
abbrev S128 : Shape := ⟨1, ![128]⟩
abbrev S1x1x128 : Shape := ⟨3, ![1, 1, 128]⟩

abbrev nBuf : Space → Nat
  | .hbm => 550
  | .vmem => 0
  | .smem => 0
  | _ => 0

abbrev hbmTy0_0 (i : Nat) : BufTy := match i % 128 with
  | 0 => ⟨S4x128x128, .f32⟩
  | 1 => ⟨S4x128, .i1⟩
  | 2 => ⟨S4x64x128, .f32⟩
  | 3 => ⟨S4x64, .i1⟩
  | 4 => ⟨S4x64x1, .i32⟩
  | 5 => ⟨S4x64x256, .f32⟩
  | 6 => ⟨S4x64, .i1⟩
  | 7 => ⟨S4x64x2, .i32⟩
  | 8 => ⟨S4x128x2, .f32⟩
  | 9 => ⟨S4x128x1, .f32⟩
  | 10 => ⟨S2x128x128, .f32⟩
  | 11 => ⟨S2x128x128, .f32⟩
  | 12 => ⟨S2x128x128, .f32⟩
  | 13 => ⟨S2x128x128, .f32⟩
  | 14 => ⟨S2x128x128, .f32⟩
  | 15 => ⟨S2x128x128, .f32⟩
  | 16 => ⟨S2x128x256, .f32⟩
  | 17 => ⟨S2x256, .f32⟩
  | 18 => ⟨S2x256x128, .f32⟩
  | 19 => ⟨S2x128, .f32⟩
  | 20 => ⟨S_, .f32⟩
  | 21 => ⟨S4x128x128x2x128, .f32⟩
  | 22 => ⟨S_, .i1⟩
  | 23 => ⟨S4x128x128x2, .i1⟩
  | 24 => ⟨S4, .i32⟩
  | 25 => ⟨S4x64, .i32⟩
  | 26 => ⟨S256, .i32⟩
  | 27 => ⟨S4x64, .i32⟩
  | 28 => ⟨S256, .i32⟩
  | 29 => ⟨S256, .i1⟩
  | 30 => ⟨S256x128, .f32⟩
  | 31 => ⟨S256x1, .i1⟩
  | 32 => ⟨S256x1, .f32⟩
  | 33 => ⟨S256x128, .f32⟩
  | 34 => ⟨S256x128, .f32⟩
  | 35 => ⟨S_, .i32⟩
  | 36 => ⟨S256, .i32⟩
  | 37 => ⟨S256, .i1⟩
  | 38 => ⟨S_, .i32⟩
  | 39 => ⟨S256, .i32⟩
  | 40 => ⟨S256, .i32⟩
  | 41 => ⟨S256, .i32⟩
  | 42 => ⟨S_, .i32⟩
  | 43 => ⟨S256, .i32⟩
  | 44 => ⟨S256, .i1⟩
  | 45 => ⟨S_, .i32⟩
  | 46 => ⟨S256, .i32⟩
  | 47 => ⟨S256, .i32⟩
  | 48 => ⟨S256, .i32⟩
  | 49 => ⟨S_, .i32⟩
  | 50 => ⟨S256, .i32⟩
  | 51 => ⟨S256, .i1⟩
  | 52 => ⟨S_, .i32⟩
  | 53 => ⟨S256, .i32⟩
  | 54 => ⟨S256, .i32⟩
  | 55 => ⟨S256, .i32⟩
  | 56 => ⟨S_, .i32⟩
  | 57 => ⟨S256, .i32⟩
  | 58 => ⟨S256, .i32⟩
  | 59 => ⟨S256x1, .i32⟩
  | 60 => ⟨S256x1, .i32⟩
  | 61 => ⟨S256x1, .i32⟩
  | 62 => ⟨S256x1, .i32⟩
  | 63 => ⟨S256x4, .i32⟩
  | 64 => ⟨S4x128x128x2x128, .f32⟩
  | 65 => ⟨S_, .i32⟩
  | 66 => ⟨S256, .i32⟩
  | 67 => ⟨S256, .i1⟩
  | 68 => ⟨S_, .i32⟩
  | 69 => ⟨S256, .i32⟩
  | 70 => ⟨S256, .i32⟩
  | 71 => ⟨S256, .i32⟩
  | 72 => ⟨S_, .i32⟩
  | 73 => ⟨S256, .i32⟩
  | 74 => ⟨S256, .i1⟩
  | 75 => ⟨S_, .i32⟩
  | 76 => ⟨S256, .i32⟩
  | 77 => ⟨S256, .i32⟩
  | 78 => ⟨S256, .i32⟩
  | 79 => ⟨S_, .i32⟩
  | 80 => ⟨S256, .i32⟩
  | 81 => ⟨S256, .i1⟩
  | 82 => ⟨S_, .i32⟩
  | 83 => ⟨S256, .i32⟩
  | 84 => ⟨S256, .i32⟩
  | 85 => ⟨S256, .i32⟩
  | 86 => ⟨S_, .i32⟩
  | 87 => ⟨S256, .i32⟩
  | 88 => ⟨S256, .i32⟩
  | 89 => ⟨S256x1, .i32⟩
  | 90 => ⟨S256x1, .i32⟩
  | 91 => ⟨S256x1, .i32⟩
  | 92 => ⟨S256x1, .i32⟩
  | 93 => ⟨S256x4, .i32⟩
  | 94 => ⟨S4x128x128x2, .i1⟩
  | 95 => ⟨S4x64x1, .i32⟩
  | 96 => ⟨S4x64, .i32⟩
  | 97 => ⟨S256, .i32⟩
  | 98 => ⟨S4x64x1, .i32⟩
  | 99 => ⟨S4x64, .i32⟩
  | 100 => ⟨S256, .i32⟩
  | 101 => ⟨S256, .i1⟩
  | 102 => ⟨S4x64x128, .f32⟩
  | 103 => ⟨S256x128, .f32⟩
  | 104 => ⟨S256x1, .i1⟩
  | 105 => ⟨S256x1, .f32⟩
  | 106 => ⟨S256x128, .f32⟩
  | 107 => ⟨S256x128, .f32⟩
  | 108 => ⟨S4x64x128, .f32⟩
  | 109 => ⟨S256x128, .f32⟩
  | 110 => ⟨S256x1, .i1⟩
  | 111 => ⟨S256x1, .f32⟩
  | 112 => ⟨S256x128, .f32⟩
  | 113 => ⟨S256x128, .f32⟩
  | 114 => ⟨S_, .i32⟩
  | 115 => ⟨S256, .i32⟩
  | 116 => ⟨S256, .i1⟩
  | 117 => ⟨S_, .i32⟩
  | 118 => ⟨S256, .i32⟩
  | 119 => ⟨S256, .i32⟩
  | 120 => ⟨S256, .i32⟩
  | 121 => ⟨S_, .i32⟩
  | 122 => ⟨S256, .i32⟩
  | 123 => ⟨S256, .i1⟩
  | 124 => ⟨S_, .i32⟩
  | 125 => ⟨S256, .i32⟩
  | 126 => ⟨S256, .i32⟩
  | 127 => ⟨S256, .i32⟩
  | _ => ⟨S4x128x128, .f32⟩

abbrev hbmTy0_1 (i : Nat) : BufTy := match i % 128 with
  | 0 => ⟨S_, .i32⟩
  | 1 => ⟨S256, .i32⟩
  | 2 => ⟨S256, .i1⟩
  | 3 => ⟨S_, .i32⟩
  | 4 => ⟨S256, .i32⟩
  | 5 => ⟨S256, .i32⟩
  | 6 => ⟨S256, .i32⟩
  | 7 => ⟨S_, .i32⟩
  | 8 => ⟨S256, .i32⟩
  | 9 => ⟨S256, .i32⟩
  | 10 => ⟨S256x1, .i32⟩
  | 11 => ⟨S256x1, .i32⟩
  | 12 => ⟨S256x1, .i32⟩
  | 13 => ⟨S256x1, .i32⟩
  | 14 => ⟨S256x4, .i32⟩
  | 15 => ⟨S4x128x128x2x128, .f32⟩
  | 16 => ⟨S_, .i32⟩
  | 17 => ⟨S256, .i32⟩
  | 18 => ⟨S256, .i1⟩
  | 19 => ⟨S_, .i32⟩
  | 20 => ⟨S256, .i32⟩
  | 21 => ⟨S256, .i32⟩
  | 22 => ⟨S256, .i32⟩
  | 23 => ⟨S_, .i32⟩
  | 24 => ⟨S256, .i32⟩
  | 25 => ⟨S256, .i1⟩
  | 26 => ⟨S_, .i32⟩
  | 27 => ⟨S256, .i32⟩
  | 28 => ⟨S256, .i32⟩
  | 29 => ⟨S256, .i32⟩
  | 30 => ⟨S_, .i32⟩
  | 31 => ⟨S256, .i32⟩
  | 32 => ⟨S256, .i1⟩
  | 33 => ⟨S_, .i32⟩
  | 34 => ⟨S256, .i32⟩
  | 35 => ⟨S256, .i32⟩
  | 36 => ⟨S256, .i32⟩
  | 37 => ⟨S_, .i32⟩
  | 38 => ⟨S256, .i32⟩
  | 39 => ⟨S256, .i32⟩
  | 40 => ⟨S256x1, .i32⟩
  | 41 => ⟨S256x1, .i32⟩
  | 42 => ⟨S256x1, .i32⟩
  | 43 => ⟨S256x1, .i32⟩
  | 44 => ⟨S256x4, .i32⟩
  | 45 => ⟨S4x128x128x2x128, .f32⟩
  | 46 => ⟨S_, .i32⟩
  | 47 => ⟨S256, .i32⟩
  | 48 => ⟨S256, .i1⟩
  | 49 => ⟨S_, .i32⟩
  | 50 => ⟨S256, .i32⟩
  | 51 => ⟨S256, .i32⟩
  | 52 => ⟨S256, .i32⟩
  | 53 => ⟨S_, .i32⟩
  | 54 => ⟨S256, .i32⟩
  | 55 => ⟨S256, .i1⟩
  | 56 => ⟨S_, .i32⟩
  | 57 => ⟨S256, .i32⟩
  | 58 => ⟨S256, .i32⟩
  | 59 => ⟨S256, .i32⟩
  | 60 => ⟨S_, .i32⟩
  | 61 => ⟨S256, .i32⟩
  | 62 => ⟨S256, .i1⟩
  | 63 => ⟨S_, .i32⟩
  | 64 => ⟨S256, .i32⟩
  | 65 => ⟨S256, .i32⟩
  | 66 => ⟨S256, .i32⟩
  | 67 => ⟨S_, .i32⟩
  | 68 => ⟨S256, .i32⟩
  | 69 => ⟨S256, .i32⟩
  | 70 => ⟨S256x1, .i32⟩
  | 71 => ⟨S256x1, .i32⟩
  | 72 => ⟨S256x1, .i32⟩
  | 73 => ⟨S256x1, .i32⟩
  | 74 => ⟨S256x4, .i32⟩
  | 75 => ⟨S4x128x128x2, .i1⟩
  | 76 => ⟨S_, .i32⟩
  | 77 => ⟨S256, .i32⟩
  | 78 => ⟨S256, .i1⟩
  | 79 => ⟨S_, .i32⟩
  | 80 => ⟨S256, .i32⟩
  | 81 => ⟨S256, .i32⟩
  | 82 => ⟨S256, .i32⟩
  | 83 => ⟨S_, .i32⟩
  | 84 => ⟨S256, .i32⟩
  | 85 => ⟨S256, .i1⟩
  | 86 => ⟨S_, .i32⟩
  | 87 => ⟨S256, .i32⟩
  | 88 => ⟨S256, .i32⟩
  | 89 => ⟨S256, .i32⟩
  | 90 => ⟨S_, .i32⟩
  | 91 => ⟨S256, .i32⟩
  | 92 => ⟨S256, .i1⟩
  | 93 => ⟨S_, .i32⟩
  | 94 => ⟨S256, .i32⟩
  | 95 => ⟨S256, .i32⟩
  | 96 => ⟨S256, .i32⟩
  | 97 => ⟨S_, .i32⟩
  | 98 => ⟨S256, .i32⟩
  | 99 => ⟨S256, .i32⟩
  | 100 => ⟨S256x1, .i32⟩
  | 101 => ⟨S256x1, .i32⟩
  | 102 => ⟨S256x1, .i32⟩
  | 103 => ⟨S256x1, .i32⟩
  | 104 => ⟨S256x4, .i32⟩
  | 105 => ⟨S4x128x128x2, .i1⟩
  | 106 => ⟨S_, .f32⟩
  | 107 => ⟨S4x128x128x128, .f32⟩
  | 108 => ⟨S4x128x128x2, .i32⟩
  | 109 => ⟨S_, .i32⟩
  | 110 => ⟨S4x128x128, .i32⟩
  | 111 => ⟨S_, .i32⟩
  | 112 => ⟨S_, .i32⟩
  | 113 => ⟨S4x128x128, .i32⟩
  | 114 => ⟨S4x128x128, .i32⟩
  | 115 => ⟨S4x128x128x1, .i32⟩
  | 116 => ⟨S4x128x128x1, .f32⟩
  | 117 => ⟨S4x128x128x128, .f32⟩
  | 118 => ⟨S4x128x128x128, .f32⟩
  | 119 => ⟨S_, .i1⟩
  | 120 => ⟨S4x128x128, .i1⟩
  | 121 => ⟨S4x128, .f32⟩
  | 122 => ⟨S4x128, .f32⟩
  | 123 => ⟨S4x128, .f32⟩
  | 124 => ⟨S4x128x1, .f32⟩
  | 125 => ⟨S4x128x1, .f32⟩
  | 126 => ⟨S4x128x2, .f32⟩
  | 127 => ⟨S4x1x128x2, .f32⟩
  | _ => ⟨S4x128x128, .f32⟩

abbrev hbmTy0_2 (i : Nat) : BufTy := match i % 128 with
  | 0 => ⟨S4x128x1x2, .f32⟩
  | 1 => ⟨S4x128x128x2, .f32⟩
  | 2 => ⟨S4x128x128x2, .f32⟩
  | 3 => ⟨S4x128x128x2, .f32⟩
  | 4 => ⟨S4x1x128, .f32⟩
  | 5 => ⟨S4x128x1, .f32⟩
  | 6 => ⟨S4x128x128, .f32⟩
  | 7 => ⟨S4x128x128, .f32⟩
  | 8 => ⟨S4x128x128, .f32⟩
  | 9 => ⟨S_, .f32⟩
  | 10 => ⟨S4x128x128, .f32⟩
  | 11 => ⟨S4x128x128, .f32⟩
  | 12 => ⟨S_, .f32⟩
  | 13 => ⟨S_, .f32⟩
  | 14 => ⟨S4x128x128, .f32⟩
  | 15 => ⟨S4x128x128, .f32⟩
  | 16 => ⟨S_, .f32⟩
  | 17 => ⟨S4x128x128, .f32⟩
  | 18 => ⟨S4x128x128, .i1⟩
  | 19 => ⟨S_, .f32⟩
  | 20 => ⟨S4x128x128, .f32⟩
  | 21 => ⟨S4x128x128, .i1⟩
  | 22 => ⟨S_, .f32⟩
  | 23 => ⟨S_, .i1⟩
  | 24 => ⟨S4x128x128, .i1⟩
  | 25 => ⟨S4x128x128, .i1⟩
  | 26 => ⟨S4x128x128, .i1⟩
  | 27 => ⟨S4x128x128, .f32⟩
  | 28 => ⟨S4x128x128, .f32⟩
  | 29 => ⟨S4x128x128, .f32⟩
  | 30 => ⟨S_, .f32⟩
  | 31 => ⟨S4x128x128, .f32⟩
  | 32 => ⟨S4x128x128, .f32⟩
  | 33 => ⟨S4x128x1x2, .f32⟩
  | 34 => ⟨S4x128x1x1, .f32⟩
  | 35 => ⟨S4x128x1, .f32⟩
  | 36 => ⟨S4x128x128x1, .f32⟩
  | 37 => ⟨S4x128x128, .f32⟩
  | 38 => ⟨S4x128x128, .f32⟩
  | 39 => ⟨S4x128x128, .f32⟩
  | 40 => ⟨S4x128x1x1, .f32⟩
  | 41 => ⟨S4x128x1, .f32⟩
  | 42 => ⟨S4x128x128x1, .f32⟩
  | 43 => ⟨S4x128x128, .f32⟩
  | 44 => ⟨S4x128x128, .f32⟩
  | 45 => ⟨S4x128x128, .f32⟩
  | 46 => ⟨S4x128x128, .f32⟩
  | 47 => ⟨S4x128x128x2, .f32⟩
  | 48 => ⟨S4x128x128x2, .f32⟩
  | 49 => ⟨S_, .f32⟩
  | 50 => ⟨S4x128x128, .f32⟩
  | 51 => ⟨S4x128x128, .f32⟩
  | 52 => ⟨S4x128x128x2, .f32⟩
  | 53 => ⟨S_, .f32⟩
  | 54 => ⟨S4x128x128, .f32⟩
  | 55 => ⟨S4x128x128, .f32⟩
  | 56 => ⟨S4x128x128x1, .f32⟩
  | 57 => ⟨S4x128x128x1, .f32⟩
  | 58 => ⟨S4x128x128x1, .f32⟩
  | 59 => ⟨S4x128x128x1, .f32⟩
  | 60 => ⟨S4x128x128x4, .f32⟩
  | 61 => ⟨S16, .i32⟩
  | 62 => ⟨S16, .f32⟩
  | 63 => ⟨S_, .f32⟩
  | 64 => ⟨S16, .f32⟩
  | 65 => ⟨S16, .f32⟩
  | 66 => ⟨S_, .f32⟩
  | 67 => ⟨S16, .f32⟩
  | 68 => ⟨S16, .f32⟩
  | 69 => ⟨S_, .f32⟩
  | 70 => ⟨S16, .f32⟩
  | 71 => ⟨S16, .f32⟩
  | 72 => ⟨S4x128x128x4x1, .f32⟩
  | 73 => ⟨S16, .f32⟩
  | 74 => ⟨S1x1x1x1x16, .f32⟩
  | 75 => ⟨S4x128x128x4x16, .f32⟩
  | 76 => ⟨S4x128x128x4x16, .f32⟩
  | 77 => ⟨S4x128x128x4x16, .f32⟩
  | 78 => ⟨S4x128x128x4x16, .f32⟩
  | 79 => ⟨S4x128x128x4x16, .f32⟩
  | 80 => ⟨S4x128x128x4x32, .f32⟩
  | 81 => ⟨S4x128x128x128, .f32⟩
  | 82 => ⟨S4x128x128x128, .f32⟩
  | 83 => ⟨S1x128x128, .f32⟩
  | 84 => ⟨S128x128, .f32⟩
  | 85 => ⟨S4x128x128, .f32⟩
  | 86 => ⟨S4x128x8x16, .f32⟩
  | 87 => ⟨S1x128x128, .f32⟩
  | 88 => ⟨S128x128, .f32⟩
  | 89 => ⟨S4x128x128, .f32⟩
  | 90 => ⟨S4x1x128x128, .f32⟩
  | 91 => ⟨S1x128x128, .f32⟩
  | 92 => ⟨S128x128, .f32⟩
  | 93 => ⟨S4x128x128x128, .f32⟩
  | 94 => ⟨S4x128x128x128, .f32⟩
  | 95 => ⟨S4x128x128x128, .f32⟩
  | 96 => ⟨S4x128x128x8x16, .f32⟩
  | 97 => ⟨S1x128x128, .f32⟩
  | 98 => ⟨S128x128, .f32⟩
  | 99 => ⟨S4x128x128, .f32⟩
  | 100 => ⟨S4x1x128x128, .f32⟩
  | 101 => ⟨S1x128x128, .f32⟩
  | 102 => ⟨S128x128, .f32⟩
  | 103 => ⟨S4x128x128x128, .f32⟩
  | 104 => ⟨S4x128x128x128, .f32⟩
  | 105 => ⟨S4x128x128x128, .f32⟩
  | 106 => ⟨S4x128x128x8x16, .f32⟩
  | 107 => ⟨S4x128x8x128, .f32⟩
  | 108 => ⟨S4x128x128x8, .f32⟩
  | 109 => ⟨S_, .f32⟩
  | 110 => ⟨S4x128x128x8, .f32⟩
  | 111 => ⟨S4x128x128x8, .f32⟩
  | 112 => ⟨S4x128x128x1, .i1⟩
  | 113 => ⟨S_, .f32⟩
  | 114 => ⟨S_, .f32⟩
  | 115 => ⟨S4x128x128x8, .i1⟩
  | 116 => ⟨S4x128x128x8, .f32⟩
  | 117 => ⟨S4x128x128x8, .f32⟩
  | 118 => ⟨S_, .f32⟩
  | 119 => ⟨S4x128x8, .f32⟩
  | 120 => ⟨S_, .f32⟩
  | 121 => ⟨S4x128x8, .f32⟩
  | 122 => ⟨S4x128x8, .f32⟩
  | 123 => ⟨S4x128x1x8, .f32⟩
  | 124 => ⟨S4x128x128x8, .f32⟩
  | 125 => ⟨S4x128x128x8, .f32⟩
  | 126 => ⟨S4x128x128x8, .f32⟩
  | 127 => ⟨S_, .f32⟩
  | _ => ⟨S4x128x128, .f32⟩

abbrev hbmTy0_3 (i : Nat) : BufTy := match i % 128 with
  | 0 => ⟨S4x128x8, .f32⟩
  | 1 => ⟨S4x128x1x8, .f32⟩
  | 2 => ⟨S4x128x128x8, .f32⟩
  | 3 => ⟨S4x128x128x8, .f32⟩
  | 4 => ⟨S4x128x128x1, .i1⟩
  | 5 => ⟨S_, .f32⟩
  | 6 => ⟨S_, .f32⟩
  | 7 => ⟨S4x128x128x8, .i1⟩
  | 8 => ⟨S4x128x128x8, .f32⟩
  | 9 => ⟨S4x128x128x8, .f32⟩
  | 10 => ⟨S4x128x8x16, .f32⟩
  | 11 => ⟨S4x128x128, .f32⟩
  | 12 => ⟨S1x128x128, .f32⟩
  | 13 => ⟨S128x128, .f32⟩
  | 14 => ⟨S4x128x128, .f32⟩
  | 15 => ⟨S4x128x128, .f32⟩
  | 16 => ⟨S_, .f32⟩
  | 17 => ⟨S4x128, .f32⟩
  | 18 => ⟨S4x128x1, .f32⟩
  | 19 => ⟨S_, .f32⟩
  | 20 => ⟨S4x128x1, .f32⟩
  | 21 => ⟨S4x128x1, .f32⟩
  | 22 => ⟨S4x128x128, .f32⟩
  | 23 => ⟨S4x128x128, .f32⟩
  | 24 => ⟨S4x128x128, .f32⟩
  | 25 => ⟨S_, .f32⟩
  | 26 => ⟨S4x128, .f32⟩
  | 27 => ⟨S4x128x1, .f32⟩
  | 28 => ⟨S_, .f32⟩
  | 29 => ⟨S4x128x1, .f32⟩
  | 30 => ⟨S4x128x1, .f32⟩
  | 31 => ⟨S4x128x128, .f32⟩
  | 32 => ⟨S4x128x128, .f32⟩
  | 33 => ⟨S_, .f32⟩
  | 34 => ⟨S4x128x1, .f32⟩
  | 35 => ⟨S4x128x1, .f32⟩
  | 36 => ⟨S4x128x1, .f32⟩
  | 37 => ⟨S4x128x128, .f32⟩
  | 38 => ⟨S4x128x128, .f32⟩
  | 39 => ⟨S1x128x256, .f32⟩
  | 40 => ⟨S128x256, .f32⟩
  | 41 => ⟨S4x128x256, .f32⟩
  | 42 => ⟨S1x256, .f32⟩
  | 43 => ⟨S256, .f32⟩
  | 44 => ⟨S1x1x256, .f32⟩
  | 45 => ⟨S4x128x256, .f32⟩
  | 46 => ⟨S4x128x256, .f32⟩
  | 47 => ⟨S_, .f32⟩
  | 48 => ⟨S4x128x256, .f32⟩
  | 49 => ⟨S4x128x256, .f32⟩
  | 50 => ⟨S1x256x128, .f32⟩
  | 51 => ⟨S256x128, .f32⟩
  | 52 => ⟨S4x128x128, .f32⟩
  | 53 => ⟨S4x128x128, .f32⟩
  | 54 => ⟨S1x128, .f32⟩
  | 55 => ⟨S128, .f32⟩
  | 56 => ⟨S1x1x128, .f32⟩
  | 57 => ⟨S4x128x128, .f32⟩
  | 58 => ⟨S4x128x128, .f32⟩
  | 59 => ⟨S1x128x128, .f32⟩
  | 60 => ⟨S128x128, .f32⟩
  | 61 => ⟨S4x128x128, .f32⟩
  | 62 => ⟨S4x128x8x16, .f32⟩
  | 63 => ⟨S1x128x128, .f32⟩
  | 64 => ⟨S128x128, .f32⟩
  | 65 => ⟨S4x128x128, .f32⟩
  | 66 => ⟨S4x1x128x128, .f32⟩
  | 67 => ⟨S1x128x128, .f32⟩
  | 68 => ⟨S128x128, .f32⟩
  | 69 => ⟨S4x128x128x128, .f32⟩
  | 70 => ⟨S4x128x128x128, .f32⟩
  | 71 => ⟨S4x128x128x128, .f32⟩
  | 72 => ⟨S4x128x128x8x16, .f32⟩
  | 73 => ⟨S1x128x128, .f32⟩
  | 74 => ⟨S128x128, .f32⟩
  | 75 => ⟨S4x128x128, .f32⟩
  | 76 => ⟨S4x1x128x128, .f32⟩
  | 77 => ⟨S1x128x128, .f32⟩
  | 78 => ⟨S128x128, .f32⟩
  | 79 => ⟨S4x128x128x128, .f32⟩
  | 80 => ⟨S4x128x128x128, .f32⟩
  | 81 => ⟨S4x128x128x128, .f32⟩
  | 82 => ⟨S4x128x128x8x16, .f32⟩
  | 83 => ⟨S4x128x8x128, .f32⟩
  | 84 => ⟨S4x128x128x8, .f32⟩
  | 85 => ⟨S_, .f32⟩
  | 86 => ⟨S4x128x128x8, .f32⟩
  | 87 => ⟨S4x128x128x8, .f32⟩
  | 88 => ⟨S4x128x128x1, .i1⟩
  | 89 => ⟨S_, .f32⟩
  | 90 => ⟨S_, .f32⟩
  | 91 => ⟨S4x128x128x8, .i1⟩
  | 92 => ⟨S4x128x128x8, .f32⟩
  | 93 => ⟨S4x128x128x8, .f32⟩
  | 94 => ⟨S_, .f32⟩
  | 95 => ⟨S4x128x8, .f32⟩
  | 96 => ⟨S_, .f32⟩
  | 97 => ⟨S4x128x8, .f32⟩
  | 98 => ⟨S4x128x8, .f32⟩
  | 99 => ⟨S4x128x1x8, .f32⟩
  | 100 => ⟨S4x128x128x8, .f32⟩
  | 101 => ⟨S4x128x128x8, .f32⟩
  | 102 => ⟨S4x128x128x8, .f32⟩
  | 103 => ⟨S_, .f32⟩
  | 104 => ⟨S4x128x8, .f32⟩
  | 105 => ⟨S4x128x1x8, .f32⟩
  | 106 => ⟨S4x128x128x8, .f32⟩
  | 107 => ⟨S4x128x128x8, .f32⟩
  | 108 => ⟨S4x128x128x1, .i1⟩
  | 109 => ⟨S_, .f32⟩
  | 110 => ⟨S_, .f32⟩
  | 111 => ⟨S4x128x128x8, .i1⟩
  | 112 => ⟨S4x128x128x8, .f32⟩
  | 113 => ⟨S4x128x128x8, .f32⟩
  | 114 => ⟨S4x128x8x16, .f32⟩
  | 115 => ⟨S4x128x128, .f32⟩
  | 116 => ⟨S1x128x128, .f32⟩
  | 117 => ⟨S128x128, .f32⟩
  | 118 => ⟨S4x128x128, .f32⟩
  | 119 => ⟨S4x128x128, .f32⟩
  | 120 => ⟨S_, .f32⟩
  | 121 => ⟨S4x128, .f32⟩
  | 122 => ⟨S4x128x1, .f32⟩
  | 123 => ⟨S_, .f32⟩
  | 124 => ⟨S4x128x1, .f32⟩
  | 125 => ⟨S4x128x1, .f32⟩
  | 126 => ⟨S4x128x128, .f32⟩
  | 127 => ⟨S4x128x128, .f32⟩
  | _ => ⟨S4x128x128, .f32⟩

abbrev hbmTy0_4 (i : Nat) : BufTy := match i % 128 with
  | 0 => ⟨S4x128x128, .f32⟩
  | 1 => ⟨S_, .f32⟩
  | 2 => ⟨S4x128, .f32⟩
  | 3 => ⟨S4x128x1, .f32⟩
  | 4 => ⟨S_, .f32⟩
  | 5 => ⟨S4x128x1, .f32⟩
  | 6 => ⟨S4x128x1, .f32⟩
  | 7 => ⟨S4x128x128, .f32⟩
  | 8 => ⟨S4x128x128, .f32⟩
  | 9 => ⟨S_, .f32⟩
  | 10 => ⟨S4x128x1, .f32⟩
  | 11 => ⟨S4x128x1, .f32⟩
  | 12 => ⟨S4x128x1, .f32⟩
  | 13 => ⟨S4x128x128, .f32⟩
  | 14 => ⟨S4x128x128, .f32⟩
  | 15 => ⟨S1x128x256, .f32⟩
  | 16 => ⟨S128x256, .f32⟩
  | 17 => ⟨S4x128x256, .f32⟩
  | 18 => ⟨S1x256, .f32⟩
  | 19 => ⟨S256, .f32⟩
  | 20 => ⟨S1x1x256, .f32⟩
  | 21 => ⟨S4x128x256, .f32⟩
  | 22 => ⟨S4x128x256, .f32⟩
  | 23 => ⟨S_, .f32⟩
  | 24 => ⟨S4x128x256, .f32⟩
  | 25 => ⟨S4x128x256, .f32⟩
  | 26 => ⟨S1x256x128, .f32⟩
  | 27 => ⟨S256x128, .f32⟩
  | 28 => ⟨S4x128x128, .f32⟩
  | 29 => ⟨S4x128x128, .f32⟩
  | 30 => ⟨S1x128, .f32⟩
  | 31 => ⟨S128, .f32⟩
  | 32 => ⟨S1x1x128, .f32⟩
  | 33 => ⟨S4x128x128, .f32⟩
  | 34 => ⟨S4x128x128, .f32⟩
  | 35 => ⟨S4x128x1, .i1⟩
  | 36 => ⟨S4x128x128, .i1⟩
  | 37 => ⟨S4x128x128, .f32⟩
  | _ => ⟨S4x128x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x128x128, .f32⟩

abbrev bufTy : (tb : Table) → Fin (tcTables nBuf tb) → BufTy
  | .hbm, ⟨i, _⟩ => hbmTy i
  | _, _ => ⟨S4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_c : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_0 : Ref sig .tc := ⟨.hbm, 35, rfl⟩
abbrev main_v13 : Ref sig .tc := ⟨.hbm, 36, rfl⟩
abbrev main_v14 : Ref sig .tc := ⟨.hbm, 37, rfl⟩
abbrev main_c_1 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_2 : Ref sig .tc := ⟨.hbm, 42, rfl⟩
abbrev main_v18 : Ref sig .tc := ⟨.hbm, 43, rfl⟩
abbrev main_v19 : Ref sig .tc := ⟨.hbm, 44, rfl⟩
abbrev main_c_3 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_4 : Ref sig .tc := ⟨.hbm, 49, rfl⟩
abbrev main_v23 : Ref sig .tc := ⟨.hbm, 50, rfl⟩
abbrev main_v24 : Ref sig .tc := ⟨.hbm, 51, rfl⟩
abbrev main_c_5 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_6 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_7 : Ref sig .tc := ⟨.hbm, 65, rfl⟩
abbrev main_v36 : Ref sig .tc := ⟨.hbm, 66, rfl⟩
abbrev main_v37 : Ref sig .tc := ⟨.hbm, 67, rfl⟩
abbrev main_c_8 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_c_9 : Ref sig .tc := ⟨.hbm, 72, rfl⟩
abbrev main_v41 : Ref sig .tc := ⟨.hbm, 73, rfl⟩
abbrev main_v42 : Ref sig .tc := ⟨.hbm, 74, rfl⟩
abbrev main_c_10 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_c_11 : Ref sig .tc := ⟨.hbm, 79, rfl⟩
abbrev main_v46 : Ref sig .tc := ⟨.hbm, 80, rfl⟩
abbrev main_v47 : Ref sig .tc := ⟨.hbm, 81, rfl⟩
abbrev main_c_12 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c_13 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_14 : Ref sig .tc := ⟨.hbm, 114, rfl⟩
abbrev main_v78 : Ref sig .tc := ⟨.hbm, 115, rfl⟩
abbrev main_v79 : Ref sig .tc := ⟨.hbm, 116, rfl⟩
abbrev main_c_15 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_c_16 : Ref sig .tc := ⟨.hbm, 121, rfl⟩
abbrev main_v83 : Ref sig .tc := ⟨.hbm, 122, rfl⟩
abbrev main_v84 : Ref sig .tc := ⟨.hbm, 123, rfl⟩
abbrev main_c_17 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_c_18 : Ref sig .tc := ⟨.hbm, 128, rfl⟩
abbrev main_v88 : Ref sig .tc := ⟨.hbm, 129, rfl⟩
abbrev main_v89 : Ref sig .tc := ⟨.hbm, 130, rfl⟩
abbrev main_c_19 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_c_20 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_c_21 : Ref sig .tc := ⟨.hbm, 144, rfl⟩
abbrev main_v101 : Ref sig .tc := ⟨.hbm, 145, rfl⟩
abbrev main_v102 : Ref sig .tc := ⟨.hbm, 146, rfl⟩
abbrev main_c_22 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_c_23 : Ref sig .tc := ⟨.hbm, 151, rfl⟩
abbrev main_v106 : Ref sig .tc := ⟨.hbm, 152, rfl⟩
abbrev main_v107 : Ref sig .tc := ⟨.hbm, 153, rfl⟩
abbrev main_c_24 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_c_25 : Ref sig .tc := ⟨.hbm, 158, rfl⟩
abbrev main_v111 : Ref sig .tc := ⟨.hbm, 159, rfl⟩
abbrev main_v112 : Ref sig .tc := ⟨.hbm, 160, rfl⟩
abbrev main_c_26 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_c_27 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_c_28 : Ref sig .tc := ⟨.hbm, 174, rfl⟩
abbrev main_v124 : Ref sig .tc := ⟨.hbm, 175, rfl⟩
abbrev main_v125 : Ref sig .tc := ⟨.hbm, 176, rfl⟩
abbrev main_c_29 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_c_30 : Ref sig .tc := ⟨.hbm, 181, rfl⟩
abbrev main_v129 : Ref sig .tc := ⟨.hbm, 182, rfl⟩
abbrev main_v130 : Ref sig .tc := ⟨.hbm, 183, rfl⟩
abbrev main_c_31 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_c_32 : Ref sig .tc := ⟨.hbm, 188, rfl⟩
abbrev main_v134 : Ref sig .tc := ⟨.hbm, 189, rfl⟩
abbrev main_v135 : Ref sig .tc := ⟨.hbm, 190, rfl⟩
abbrev main_c_33 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_c_34 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_c_35 : Ref sig .tc := ⟨.hbm, 204, rfl⟩
abbrev main_v147 : Ref sig .tc := ⟨.hbm, 205, rfl⟩
abbrev main_v148 : Ref sig .tc := ⟨.hbm, 206, rfl⟩
abbrev main_c_36 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_c_37 : Ref sig .tc := ⟨.hbm, 211, rfl⟩
abbrev main_v152 : Ref sig .tc := ⟨.hbm, 212, rfl⟩
abbrev main_v153 : Ref sig .tc := ⟨.hbm, 213, rfl⟩
abbrev main_c_38 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_c_39 : Ref sig .tc := ⟨.hbm, 218, rfl⟩
abbrev main_v157 : Ref sig .tc := ⟨.hbm, 219, rfl⟩
abbrev main_v158 : Ref sig .tc := ⟨.hbm, 220, rfl⟩
abbrev main_c_40 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_c_41 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_cst_42 : Ref sig .tc := ⟨.hbm, 234, rfl⟩
abbrev main_v170 : Ref sig .tc := ⟨.hbm, 235, rfl⟩
abbrev main_v171 : Ref sig .tc := ⟨.hbm, 236, rfl⟩
abbrev main_c_43 : Ref sig .tc := ⟨.hbm, 237, rfl⟩
abbrev main_v172 : Ref sig .tc := ⟨.hbm, 238, rfl⟩
abbrev main_c_44 : Ref sig .tc := ⟨.hbm, 239, rfl⟩
abbrev main_call0_v0 : Ref sig .tc := ⟨.hbm, 240, rfl⟩
abbrev main_call0_v1 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_c_45 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_cst_46 : Ref sig .tc := ⟨.hbm, 265, rfl⟩
abbrev main_v195 : Ref sig .tc := ⟨.hbm, 266, rfl⟩
abbrev main_v196 : Ref sig .tc := ⟨.hbm, 267, rfl⟩
abbrev main_cst_47 : Ref sig .tc := ⟨.hbm, 268, rfl⟩
abbrev main_call1_v0 : Ref sig .tc := ⟨.hbm, 269, rfl⟩
abbrev main_call1_v1 : Ref sig .tc := ⟨.hbm, 270, rfl⟩
abbrev main_call1_v2 : Ref sig .tc := ⟨.hbm, 271, rfl⟩
abbrev main_call1_cst : Ref sig .tc := ⟨.hbm, 272, rfl⟩
abbrev main_call1_v3 : Ref sig .tc := ⟨.hbm, 273, rfl⟩
abbrev main_call1_v4 : Ref sig .tc := ⟨.hbm, 274, rfl⟩
abbrev main_call1_cst_0 : Ref sig .tc := ⟨.hbm, 275, rfl⟩
abbrev main_call1_v5 : Ref sig .tc := ⟨.hbm, 276, rfl⟩
abbrev main_call1_v6 : Ref sig .tc := ⟨.hbm, 277, rfl⟩
abbrev main_call1_cst_1 : Ref sig .tc := ⟨.hbm, 278, rfl⟩
abbrev main_call1_v7 : Ref sig .tc := ⟨.hbm, 279, rfl⟩
abbrev main_call1_v8 : Ref sig .tc := ⟨.hbm, 280, rfl⟩
abbrev main_call1_v9 : Ref sig .tc := ⟨.hbm, 281, rfl⟩
abbrev main_call1_v10 : Ref sig .tc := ⟨.hbm, 282, rfl⟩
abbrev main_call1_v11 : Ref sig .tc := ⟨.hbm, 283, rfl⟩
abbrev main_call1_v12 : Ref sig .tc := ⟨.hbm, 284, rfl⟩
abbrev main_v197 : Ref sig .tc := ⟨.hbm, 285, rfl⟩
abbrev main_cst_48 : Ref sig .tc := ⟨.hbm, 286, rfl⟩
abbrev main_v198 : Ref sig .tc := ⟨.hbm, 287, rfl⟩
abbrev main_v199 : Ref sig .tc := ⟨.hbm, 288, rfl⟩
abbrev main_v200 : Ref sig .tc := ⟨.hbm, 289, rfl⟩
abbrev main_v201 : Ref sig .tc := ⟨.hbm, 290, rfl⟩
abbrev main_v202 : Ref sig .tc := ⟨.hbm, 291, rfl⟩
abbrev main_v203 : Ref sig .tc := ⟨.hbm, 292, rfl⟩
abbrev main_v204 : Ref sig .tc := ⟨.hbm, 293, rfl⟩
abbrev main_v205 : Ref sig .tc := ⟨.hbm, 294, rfl⟩
abbrev main_v206 : Ref sig .tc := ⟨.hbm, 295, rfl⟩
abbrev main_v207 : Ref sig .tc := ⟨.hbm, 296, rfl⟩
abbrev main_v208 : Ref sig .tc := ⟨.hbm, 297, rfl⟩
abbrev main_v209 : Ref sig .tc := ⟨.hbm, 298, rfl⟩
abbrev main_v210 : Ref sig .tc := ⟨.hbm, 299, rfl⟩
abbrev main_v211 : Ref sig .tc := ⟨.hbm, 300, rfl⟩
abbrev main_v212 : Ref sig .tc := ⟨.hbm, 301, rfl⟩
abbrev main_v213 : Ref sig .tc := ⟨.hbm, 302, rfl⟩
abbrev main_v214 : Ref sig .tc := ⟨.hbm, 303, rfl⟩
abbrev main_v215 : Ref sig .tc := ⟨.hbm, 304, rfl⟩
abbrev main_cst_49 : Ref sig .tc := ⟨.hbm, 305, rfl⟩
abbrev main_v216 : Ref sig .tc := ⟨.hbm, 306, rfl⟩
abbrev main_v217 : Ref sig .tc := ⟨.hbm, 307, rfl⟩
abbrev main_call2_v0 : Ref sig .tc := ⟨.hbm, 308, rfl⟩
abbrev main_call2_cst : Ref sig .tc := ⟨.hbm, 309, rfl⟩
abbrev main_call2_v1 : Ref sig .tc := ⟨.hbm, 310, rfl⟩
abbrev main_v218 : Ref sig .tc := ⟨.hbm, 311, rfl⟩
abbrev main_v219 : Ref sig .tc := ⟨.hbm, 312, rfl⟩
abbrev main_v220 : Ref sig .tc := ⟨.hbm, 313, rfl⟩
abbrev main_v221 : Ref sig .tc := ⟨.hbm, 314, rfl⟩
abbrev main_v222 : Ref sig .tc := ⟨.hbm, 315, rfl⟩
abbrev main_v223 : Ref sig .tc := ⟨.hbm, 316, rfl⟩
abbrev main_v224 : Ref sig .tc := ⟨.hbm, 317, rfl⟩
abbrev main_v225 : Ref sig .tc := ⟨.hbm, 318, rfl⟩
abbrev main_cst_50 : Ref sig .tc := ⟨.hbm, 319, rfl⟩
abbrev main_v226 : Ref sig .tc := ⟨.hbm, 320, rfl⟩
abbrev main_v227 : Ref sig .tc := ⟨.hbm, 321, rfl⟩
abbrev main_cst_51 : Ref sig .tc := ⟨.hbm, 322, rfl⟩
abbrev main_v228 : Ref sig .tc := ⟨.hbm, 323, rfl⟩
abbrev main_v229 : Ref sig .tc := ⟨.hbm, 324, rfl⟩
abbrev main_cst_52 : Ref sig .tc := ⟨.hbm, 325, rfl⟩
abbrev main_v230 : Ref sig .tc := ⟨.hbm, 326, rfl⟩
abbrev main_v231 : Ref sig .tc := ⟨.hbm, 327, rfl⟩
abbrev main_v232 : Ref sig .tc := ⟨.hbm, 328, rfl⟩
abbrev main_v233 : Ref sig .tc := ⟨.hbm, 329, rfl⟩
abbrev main_v234 : Ref sig .tc := ⟨.hbm, 330, rfl⟩
abbrev main_v235 : Ref sig .tc := ⟨.hbm, 331, rfl⟩
abbrev main_v236 : Ref sig .tc := ⟨.hbm, 332, rfl⟩
abbrev main_v237 : Ref sig .tc := ⟨.hbm, 333, rfl⟩
abbrev main_v238 : Ref sig .tc := ⟨.hbm, 334, rfl⟩
abbrev main_v239 : Ref sig .tc := ⟨.hbm, 335, rfl⟩
abbrev main_v240 : Ref sig .tc := ⟨.hbm, 336, rfl⟩
abbrev main_v241 : Ref sig .tc := ⟨.hbm, 337, rfl⟩
abbrev main_v242 : Ref sig .tc := ⟨.hbm, 338, rfl⟩
abbrev main_v243 : Ref sig .tc := ⟨.hbm, 339, rfl⟩
abbrev main_v244 : Ref sig .tc := ⟨.hbm, 340, rfl⟩
abbrev main_v245 : Ref sig .tc := ⟨.hbm, 341, rfl⟩
abbrev main_v246 : Ref sig .tc := ⟨.hbm, 342, rfl⟩
abbrev main_v247 : Ref sig .tc := ⟨.hbm, 343, rfl⟩
abbrev main_v248 : Ref sig .tc := ⟨.hbm, 344, rfl⟩
abbrev main_v249 : Ref sig .tc := ⟨.hbm, 345, rfl⟩
abbrev main_v250 : Ref sig .tc := ⟨.hbm, 346, rfl⟩
abbrev main_v251 : Ref sig .tc := ⟨.hbm, 347, rfl⟩
abbrev main_v252 : Ref sig .tc := ⟨.hbm, 348, rfl⟩
abbrev main_v253 : Ref sig .tc := ⟨.hbm, 349, rfl⟩
abbrev main_v254 : Ref sig .tc := ⟨.hbm, 350, rfl⟩
abbrev main_v255 : Ref sig .tc := ⟨.hbm, 351, rfl⟩
abbrev main_v256 : Ref sig .tc := ⟨.hbm, 352, rfl⟩
abbrev main_v257 : Ref sig .tc := ⟨.hbm, 353, rfl⟩
abbrev main_v258 : Ref sig .tc := ⟨.hbm, 354, rfl⟩
abbrev main_v259 : Ref sig .tc := ⟨.hbm, 355, rfl⟩
abbrev main_v260 : Ref sig .tc := ⟨.hbm, 356, rfl⟩
abbrev main_v261 : Ref sig .tc := ⟨.hbm, 357, rfl⟩
abbrev main_v262 : Ref sig .tc := ⟨.hbm, 358, rfl⟩
abbrev main_v263 : Ref sig .tc := ⟨.hbm, 359, rfl⟩
abbrev main_v264 : Ref sig .tc := ⟨.hbm, 360, rfl⟩
abbrev main_v265 : Ref sig .tc := ⟨.hbm, 361, rfl⟩
abbrev main_v266 : Ref sig .tc := ⟨.hbm, 362, rfl⟩
abbrev main_v267 : Ref sig .tc := ⟨.hbm, 363, rfl⟩
abbrev main_v268 : Ref sig .tc := ⟨.hbm, 364, rfl⟩
abbrev main_cst_53 : Ref sig .tc := ⟨.hbm, 365, rfl⟩
abbrev main_v269 : Ref sig .tc := ⟨.hbm, 366, rfl⟩
abbrev main_v270 : Ref sig .tc := ⟨.hbm, 367, rfl⟩
abbrev main_v271 : Ref sig .tc := ⟨.hbm, 368, rfl⟩
abbrev main_cst_54 : Ref sig .tc := ⟨.hbm, 369, rfl⟩
abbrev main_call3_v0 : Ref sig .tc := ⟨.hbm, 370, rfl⟩
abbrev main_call3_v1 : Ref sig .tc := ⟨.hbm, 371, rfl⟩
abbrev main_call3_v2 : Ref sig .tc := ⟨.hbm, 372, rfl⟩
abbrev main_v272 : Ref sig .tc := ⟨.hbm, 373, rfl⟩
abbrev main_cst_55 : Ref sig .tc := ⟨.hbm, 374, rfl⟩
abbrev main_v273 : Ref sig .tc := ⟨.hbm, 375, rfl⟩
abbrev main_cst_56 : Ref sig .tc := ⟨.hbm, 376, rfl⟩
abbrev main_v274 : Ref sig .tc := ⟨.hbm, 377, rfl⟩
abbrev main_v275 : Ref sig .tc := ⟨.hbm, 378, rfl⟩
abbrev main_v276 : Ref sig .tc := ⟨.hbm, 379, rfl⟩
abbrev main_v277 : Ref sig .tc := ⟨.hbm, 380, rfl⟩
abbrev main_v278 : Ref sig .tc := ⟨.hbm, 381, rfl⟩
abbrev main_v279 : Ref sig .tc := ⟨.hbm, 382, rfl⟩
abbrev main_cst_57 : Ref sig .tc := ⟨.hbm, 383, rfl⟩
abbrev main_v280 : Ref sig .tc := ⟨.hbm, 384, rfl⟩
abbrev main_v281 : Ref sig .tc := ⟨.hbm, 385, rfl⟩
abbrev main_v282 : Ref sig .tc := ⟨.hbm, 386, rfl⟩
abbrev main_v283 : Ref sig .tc := ⟨.hbm, 387, rfl⟩
abbrev main_v284 : Ref sig .tc := ⟨.hbm, 388, rfl⟩
abbrev main_cst_58 : Ref sig .tc := ⟨.hbm, 389, rfl⟩
abbrev main_call4_v0 : Ref sig .tc := ⟨.hbm, 390, rfl⟩
abbrev main_call4_v1 : Ref sig .tc := ⟨.hbm, 391, rfl⟩
abbrev main_call4_v2 : Ref sig .tc := ⟨.hbm, 392, rfl⟩
abbrev main_v285 : Ref sig .tc := ⟨.hbm, 393, rfl⟩
abbrev main_v286 : Ref sig .tc := ⟨.hbm, 394, rfl⟩
abbrev main_v287 : Ref sig .tc := ⟨.hbm, 395, rfl⟩
abbrev main_v288 : Ref sig .tc := ⟨.hbm, 396, rfl⟩
abbrev main_v289 : Ref sig .tc := ⟨.hbm, 397, rfl⟩
abbrev main_v290 : Ref sig .tc := ⟨.hbm, 398, rfl⟩
abbrev main_v291 : Ref sig .tc := ⟨.hbm, 399, rfl⟩
abbrev main_cst_59 : Ref sig .tc := ⟨.hbm, 400, rfl⟩
abbrev main_v292 : Ref sig .tc := ⟨.hbm, 401, rfl⟩
abbrev main_v293 : Ref sig .tc := ⟨.hbm, 402, rfl⟩
abbrev main_cst_60 : Ref sig .tc := ⟨.hbm, 403, rfl⟩
abbrev main_v294 : Ref sig .tc := ⟨.hbm, 404, rfl⟩
abbrev main_v295 : Ref sig .tc := ⟨.hbm, 405, rfl⟩
abbrev main_v296 : Ref sig .tc := ⟨.hbm, 406, rfl⟩
abbrev main_v297 : Ref sig .tc := ⟨.hbm, 407, rfl⟩
abbrev main_v298 : Ref sig .tc := ⟨.hbm, 408, rfl⟩
abbrev main_cst_61 : Ref sig .tc := ⟨.hbm, 409, rfl⟩
abbrev main_v299 : Ref sig .tc := ⟨.hbm, 410, rfl⟩
abbrev main_v300 : Ref sig .tc := ⟨.hbm, 411, rfl⟩
abbrev main_cst_62 : Ref sig .tc := ⟨.hbm, 412, rfl⟩
abbrev main_v301 : Ref sig .tc := ⟨.hbm, 413, rfl⟩
abbrev main_v302 : Ref sig .tc := ⟨.hbm, 414, rfl⟩
abbrev main_v303 : Ref sig .tc := ⟨.hbm, 415, rfl⟩
abbrev main_v304 : Ref sig .tc := ⟨.hbm, 416, rfl⟩
abbrev main_cst_63 : Ref sig .tc := ⟨.hbm, 417, rfl⟩
abbrev main_v305 : Ref sig .tc := ⟨.hbm, 418, rfl⟩
abbrev main_v306 : Ref sig .tc := ⟨.hbm, 419, rfl⟩
abbrev main_v307 : Ref sig .tc := ⟨.hbm, 420, rfl⟩
abbrev main_v308 : Ref sig .tc := ⟨.hbm, 421, rfl⟩
abbrev main_v309 : Ref sig .tc := ⟨.hbm, 422, rfl⟩
abbrev main_v310 : Ref sig .tc := ⟨.hbm, 423, rfl⟩
abbrev main_v311 : Ref sig .tc := ⟨.hbm, 424, rfl⟩
abbrev main_v312 : Ref sig .tc := ⟨.hbm, 425, rfl⟩
abbrev main_v313 : Ref sig .tc := ⟨.hbm, 426, rfl⟩
abbrev main_v314 : Ref sig .tc := ⟨.hbm, 427, rfl⟩
abbrev main_v315 : Ref sig .tc := ⟨.hbm, 428, rfl⟩
abbrev main_v316 : Ref sig .tc := ⟨.hbm, 429, rfl⟩
abbrev main_v317 : Ref sig .tc := ⟨.hbm, 430, rfl⟩
abbrev main_call5_cst : Ref sig .tc := ⟨.hbm, 431, rfl⟩
abbrev main_call5_v0 : Ref sig .tc := ⟨.hbm, 432, rfl⟩
abbrev main_v318 : Ref sig .tc := ⟨.hbm, 433, rfl⟩
abbrev main_v319 : Ref sig .tc := ⟨.hbm, 434, rfl⟩
abbrev main_v320 : Ref sig .tc := ⟨.hbm, 435, rfl⟩
abbrev main_v321 : Ref sig .tc := ⟨.hbm, 436, rfl⟩
abbrev main_v322 : Ref sig .tc := ⟨.hbm, 437, rfl⟩
abbrev main_v323 : Ref sig .tc := ⟨.hbm, 438, rfl⟩
abbrev main_v324 : Ref sig .tc := ⟨.hbm, 439, rfl⟩
abbrev main_v325 : Ref sig .tc := ⟨.hbm, 440, rfl⟩
abbrev main_v326 : Ref sig .tc := ⟨.hbm, 441, rfl⟩
abbrev main_v327 : Ref sig .tc := ⟨.hbm, 442, rfl⟩
abbrev main_v328 : Ref sig .tc := ⟨.hbm, 443, rfl⟩
abbrev main_v329 : Ref sig .tc := ⟨.hbm, 444, rfl⟩
abbrev main_v330 : Ref sig .tc := ⟨.hbm, 445, rfl⟩
abbrev main_v331 : Ref sig .tc := ⟨.hbm, 446, rfl⟩
abbrev main_v332 : Ref sig .tc := ⟨.hbm, 447, rfl⟩
abbrev main_v333 : Ref sig .tc := ⟨.hbm, 448, rfl⟩
abbrev main_v334 : Ref sig .tc := ⟨.hbm, 449, rfl⟩
abbrev main_v335 : Ref sig .tc := ⟨.hbm, 450, rfl⟩
abbrev main_v336 : Ref sig .tc := ⟨.hbm, 451, rfl⟩
abbrev main_v337 : Ref sig .tc := ⟨.hbm, 452, rfl⟩
abbrev main_v338 : Ref sig .tc := ⟨.hbm, 453, rfl⟩
abbrev main_v339 : Ref sig .tc := ⟨.hbm, 454, rfl⟩
abbrev main_v340 : Ref sig .tc := ⟨.hbm, 455, rfl⟩
abbrev main_v341 : Ref sig .tc := ⟨.hbm, 456, rfl⟩
abbrev main_v342 : Ref sig .tc := ⟨.hbm, 457, rfl⟩
abbrev main_v343 : Ref sig .tc := ⟨.hbm, 458, rfl⟩
abbrev main_v344 : Ref sig .tc := ⟨.hbm, 459, rfl⟩
abbrev main_v345 : Ref sig .tc := ⟨.hbm, 460, rfl⟩
abbrev main_v346 : Ref sig .tc := ⟨.hbm, 461, rfl⟩
abbrev main_v347 : Ref sig .tc := ⟨.hbm, 462, rfl⟩
abbrev main_v348 : Ref sig .tc := ⟨.hbm, 463, rfl⟩
abbrev main_v349 : Ref sig .tc := ⟨.hbm, 464, rfl⟩
abbrev main_v350 : Ref sig .tc := ⟨.hbm, 465, rfl⟩
abbrev main_v351 : Ref sig .tc := ⟨.hbm, 466, rfl⟩
abbrev main_v352 : Ref sig .tc := ⟨.hbm, 467, rfl⟩
abbrev main_v353 : Ref sig .tc := ⟨.hbm, 468, rfl⟩
abbrev main_cst_64 : Ref sig .tc := ⟨.hbm, 469, rfl⟩
abbrev main_v354 : Ref sig .tc := ⟨.hbm, 470, rfl⟩
abbrev main_v355 : Ref sig .tc := ⟨.hbm, 471, rfl⟩
abbrev main_v356 : Ref sig .tc := ⟨.hbm, 472, rfl⟩
abbrev main_cst_65 : Ref sig .tc := ⟨.hbm, 473, rfl⟩
abbrev main_call6_v0 : Ref sig .tc := ⟨.hbm, 474, rfl⟩
abbrev main_call6_v1 : Ref sig .tc := ⟨.hbm, 475, rfl⟩
abbrev main_call6_v2 : Ref sig .tc := ⟨.hbm, 476, rfl⟩
abbrev main_v357 : Ref sig .tc := ⟨.hbm, 477, rfl⟩
abbrev main_cst_66 : Ref sig .tc := ⟨.hbm, 478, rfl⟩
abbrev main_v358 : Ref sig .tc := ⟨.hbm, 479, rfl⟩
abbrev main_cst_67 : Ref sig .tc := ⟨.hbm, 480, rfl⟩
abbrev main_v359 : Ref sig .tc := ⟨.hbm, 481, rfl⟩
abbrev main_v360 : Ref sig .tc := ⟨.hbm, 482, rfl⟩
abbrev main_v361 : Ref sig .tc := ⟨.hbm, 483, rfl⟩
abbrev main_v362 : Ref sig .tc := ⟨.hbm, 484, rfl⟩
abbrev main_v363 : Ref sig .tc := ⟨.hbm, 485, rfl⟩
abbrev main_v364 : Ref sig .tc := ⟨.hbm, 486, rfl⟩
abbrev main_cst_68 : Ref sig .tc := ⟨.hbm, 487, rfl⟩
abbrev main_v365 : Ref sig .tc := ⟨.hbm, 488, rfl⟩
abbrev main_v366 : Ref sig .tc := ⟨.hbm, 489, rfl⟩
abbrev main_v367 : Ref sig .tc := ⟨.hbm, 490, rfl⟩
abbrev main_v368 : Ref sig .tc := ⟨.hbm, 491, rfl⟩
abbrev main_v369 : Ref sig .tc := ⟨.hbm, 492, rfl⟩
abbrev main_cst_69 : Ref sig .tc := ⟨.hbm, 493, rfl⟩
abbrev main_call7_v0 : Ref sig .tc := ⟨.hbm, 494, rfl⟩
abbrev main_call7_v1 : Ref sig .tc := ⟨.hbm, 495, rfl⟩
abbrev main_call7_v2 : Ref sig .tc := ⟨.hbm, 496, rfl⟩
abbrev main_v370 : Ref sig .tc := ⟨.hbm, 497, rfl⟩
abbrev main_v371 : Ref sig .tc := ⟨.hbm, 498, rfl⟩
abbrev main_v372 : Ref sig .tc := ⟨.hbm, 499, rfl⟩
abbrev main_v373 : Ref sig .tc := ⟨.hbm, 500, rfl⟩
abbrev main_v374 : Ref sig .tc := ⟨.hbm, 501, rfl⟩
abbrev main_v375 : Ref sig .tc := ⟨.hbm, 502, rfl⟩
abbrev main_v376 : Ref sig .tc := ⟨.hbm, 503, rfl⟩
abbrev main_cst_70 : Ref sig .tc := ⟨.hbm, 504, rfl⟩
abbrev main_v377 : Ref sig .tc := ⟨.hbm, 505, rfl⟩
abbrev main_v378 : Ref sig .tc := ⟨.hbm, 506, rfl⟩
abbrev main_cst_71 : Ref sig .tc := ⟨.hbm, 507, rfl⟩
abbrev main_v379 : Ref sig .tc := ⟨.hbm, 508, rfl⟩
abbrev main_v380 : Ref sig .tc := ⟨.hbm, 509, rfl⟩
abbrev main_v381 : Ref sig .tc := ⟨.hbm, 510, rfl⟩
abbrev main_v382 : Ref sig .tc := ⟨.hbm, 511, rfl⟩
abbrev main_v383 : Ref sig .tc := ⟨.hbm, 512, rfl⟩
abbrev main_cst_72 : Ref sig .tc := ⟨.hbm, 513, rfl⟩
abbrev main_v384 : Ref sig .tc := ⟨.hbm, 514, rfl⟩
abbrev main_v385 : Ref sig .tc := ⟨.hbm, 515, rfl⟩
abbrev main_cst_73 : Ref sig .tc := ⟨.hbm, 516, rfl⟩
abbrev main_v386 : Ref sig .tc := ⟨.hbm, 517, rfl⟩
abbrev main_v387 : Ref sig .tc := ⟨.hbm, 518, rfl⟩
abbrev main_v388 : Ref sig .tc := ⟨.hbm, 519, rfl⟩
abbrev main_v389 : Ref sig .tc := ⟨.hbm, 520, rfl⟩
abbrev main_cst_74 : Ref sig .tc := ⟨.hbm, 521, rfl⟩
abbrev main_v390 : Ref sig .tc := ⟨.hbm, 522, rfl⟩
abbrev main_v391 : Ref sig .tc := ⟨.hbm, 523, rfl⟩
abbrev main_v392 : Ref sig .tc := ⟨.hbm, 524, rfl⟩
abbrev main_v393 : Ref sig .tc := ⟨.hbm, 525, rfl⟩
abbrev main_v394 : Ref sig .tc := ⟨.hbm, 526, rfl⟩
abbrev main_v395 : Ref sig .tc := ⟨.hbm, 527, rfl⟩
abbrev main_v396 : Ref sig .tc := ⟨.hbm, 528, rfl⟩
abbrev main_v397 : Ref sig .tc := ⟨.hbm, 529, rfl⟩
abbrev main_v398 : Ref sig .tc := ⟨.hbm, 530, rfl⟩
abbrev main_v399 : Ref sig .tc := ⟨.hbm, 531, rfl⟩
abbrev main_v400 : Ref sig .tc := ⟨.hbm, 532, rfl⟩
abbrev main_v401 : Ref sig .tc := ⟨.hbm, 533, rfl⟩
abbrev main_v402 : Ref sig .tc := ⟨.hbm, 534, rfl⟩
abbrev main_call8_cst : Ref sig .tc := ⟨.hbm, 535, rfl⟩
abbrev main_call8_v0 : Ref sig .tc := ⟨.hbm, 536, rfl⟩
abbrev main_v403 : Ref sig .tc := ⟨.hbm, 537, rfl⟩
abbrev main_v404 : Ref sig .tc := ⟨.hbm, 538, rfl⟩
abbrev main_v405 : Ref sig .tc := ⟨.hbm, 539, rfl⟩
abbrev main_v406 : Ref sig .tc := ⟨.hbm, 540, rfl⟩
abbrev main_v407 : Ref sig .tc := ⟨.hbm, 541, rfl⟩
abbrev main_v408 : Ref sig .tc := ⟨.hbm, 542, rfl⟩
abbrev main_v409 : Ref sig .tc := ⟨.hbm, 543, rfl⟩
abbrev main_v410 : Ref sig .tc := ⟨.hbm, 544, rfl⟩
abbrev main_v411 : Ref sig .tc := ⟨.hbm, 545, rfl⟩
abbrev main_v412 : Ref sig .tc := ⟨.hbm, 546, rfl⟩
abbrev main_v413 : Ref sig .tc := ⟨.hbm, 547, rfl⟩
abbrev main_call9_v0 : Ref sig .tc := ⟨.hbm, 548, rfl⟩
abbrev main_v414 : Ref sig .tc := ⟨.hbm, 549, rfl⟩

abbrev nD : Nat := 1
abbrev τ : Topo := Topo.v7x

variable {F : FTy → Type} [FloatOps F]
-- ==== Proof.Spec.lean ====
/-
  The mathematics of one batch element, without any program.

  `Layer.next` is one relational attention layer written densely: every pair of agents (i, j) has a relation vector
  `r i j`, a masked softmax over `j` runs at each `i`, and a feed-forward block follows. `sparseAgg` is the same
  weighted sum taken edge by edge over a list of 192 edges, where several edges may name the same pair and share its
  weight. `sparseAgg_eq` says that the two agree.
-/
module

public import Idealize.ShloMosaic.PureOps.Ideal
public import Idealize.ShloMosaic.PureOps.Ideal.Laws

@[expose] public section

noncomputable section

namespace Cert.Proof.Spec

open Idealize.ShloMosaic
open scoped BigOperators Classical

/-- A matrix of extended reals. -/
abbrev Mat (a b : ℕ) := Fin a → Fin b → EReal

/-- The matrix product. -/
def mm {a b c : ℕ} (A : Mat a b) (B : Mat b c) : Mat a c := fun i k => ∑ j, A i j * B j k

/-- The head of lane `d`: sixteen lanes a head. -/
def head (d : Fin 128) : Fin 8 := ⟨d.val / 16, by omega⟩

/-- Lane `t` of head `h`. -/
def lane (h : Fin 8) (t : Fin 16) : Fin 128 := ⟨h.val * 16 + t.val, by omega⟩

/-! ## The dense layer -/

/-- The weights of one layer. -/
structure Layer where
  Wq : Mat 128 128
  Wk : Mat 128 128
  Wv : Mat 128 128
  Wkr : Mat 128 128
  Wvr : Mat 128 128
  Wo : Mat 128 128
  W1 : Mat 128 256
  b1 : Fin 256 → EReal
  W2 : Mat 256 128
  b2 : Fin 128 → EReal

/-- The largest score of row `i` among the pairs that `em` keeps, −∞ where it keeps none. -/
def top (em : Fin 128 → Fin 128 → Prop) (s : Mat 128 128) (i : Fin 128) : EReal :=
  Finset.univ.fold max ⊥ fun j => if em i j then s i j else ⊥

/-- The unnormalized weight of `j` at `i`. -/
def prob (em : Fin 128 → Fin 128 → Prop) (s : Mat 128 128) (i j : Fin 128) : EReal :=
  Ideal.exp ((if em i j then s i j else ⊥) - top em s i)

/-- The attention weight of `j` at `i`, zero off the mask. -/
def att (em : Fin 128 → Fin 128 → Prop) (s : Mat 128 128) (i j : Fin 128) : EReal :=
  if em i j then Ideal.div (prob em s i j) (∑ j', prob em s i j') else 0

/-- The attended sum of the values `v i j` at `i`. -/
def denseAgg (em : Fin 128 → Fin 128 → Prop) (s v : Mat 128 128) (i : Fin 128) : EReal :=
  ∑ j, att em s i j * v i j

/-- The score's scale, one quarter. -/
def quarter : EReal := Ideal.ofBits .f32 0x3E800000#32

namespace Layer

variable (W : Layer) (x : Mat 128 128) (r : Fin 128 → Fin 128 → Fin 128 → EReal)

/-- The key of the pair (i, j): agent j's projection and the relation's. -/
def key (i j d : Fin 128) : EReal := mm x W.Wk j d + ∑ c, r i j c * W.Wkr c d

/-- The value of the pair (i, j). -/
def val (i j d : Fin 128) : EReal := mm x W.Wv j d + ∑ c, r i j c * W.Wvr c d

/-- The scaled score of the pair (i, j) in head `h`. -/
def score (h : Fin 8) (i j : Fin 128) : EReal :=
  (∑ t, W.key x r i j (lane h t) * mm x W.Wq i (lane h t)) * quarter

/-- The attended values of every agent, heads side by side. -/
def agg (em : Fin 128 → Fin 128 → Prop) : Mat 128 128 := fun i d =>
  denseAgg em (W.score x r (head d)) (fun i j => W.val x r i j d) i

end Layer

/-- The mean of a row: its sum over 128. -/
def mean (f : Fin 128 → EReal) : EReal := Ideal.div (∑ c, f c) (Ideal.ofBits .f32 0x43000000#32)

/-- Layer normalization of the rows. -/
def norm (y : Mat 128 128) : Mat 128 128 := fun i d =>
  Ideal.div (y i d - mean (y i))
    (Ideal.sqrt (mean (fun c => (y i c - mean (y i)) * (y i c - mean (y i))) + Ideal.ofBits .f32 0x3727C5AC#32))

/-- The hidden units of the feed-forward block. -/
def hidden (W : Layer) (y : Mat 128 128) : Mat 128 256 := fun i k => max (mm (norm y) W.W1 i k + W.b1 k) 0

/-- The feed-forward block with its residual. -/
def forward (W : Layer) (y : Mat 128 128) : Mat 128 128 := fun i d =>
  y i d + mm (hidden W y) W.W2 i d + W.b2 d

/-- The residual after attention: the state plus the attended values' projection. -/
def attended (W : Layer) (x a : Mat 128 128) : Mat 128 128 := fun i d => x i d + mm a W.Wo i d

/-- One layer. -/
def Layer.next (W : Layer) (em : Fin 128 → Fin 128 → Prop) (r : Fin 128 → Fin 128 → Fin 128 → EReal)
    (x : Mat 128 128) : Mat 128 128 := forward W (attended W x (W.agg x r em))

/-! ## The same sum, edge by edge -/

section Sparse

variable (I J : Fin 192 → Fin 128) (rw : Fin 192 → EReal)

/-- The largest score among the edges that start at `i`. -/
def edgeTop (s : Fin 192 → EReal) (i : Fin 128) : EReal :=
  Finset.univ.fold max ⊥ fun e => if I e = i then s e else ⊥

/-- An edge's share of its pair's unnormalized weight. -/
def edgeZ (s : Fin 192 → EReal) (e : Fin 192) : EReal := rw e * Ideal.exp (s e - edgeTop I s (I e))

/-- The normalizer at `i`. -/
def edgeDen (s : Fin 192 → EReal) (i : Fin 128) : EReal := ∑ e, if I e = i then edgeZ I rw s e else 0

/-- The attended sum at `i`, over edges. -/
def sparseAgg (s v : Fin 192 → EReal) (i : Fin 128) : EReal :=
  ∑ e, if I e = i then Ideal.div (edgeZ I rw s e) (edgeDen I rw s (I e)) * v e else 0

end Sparse

/-- A sum of terms that are not negative, times any factor, is the sum of the products. -/
theorem sum_mul_right {ι : Type*} (t : Finset ι) (f : ι → EReal) (hf : ∀ e, 0 ≤ f e) (c : EReal) :
    (∑ e ∈ t, f e) * c = ∑ e ∈ t, f e * c := by
  induction t using Finset.induction_on with
  | empty => simp
  | insert a t ha ih =>
    rw [Finset.sum_insert ha, Finset.sum_insert ha,
      EReal.right_distrib_of_nonneg (hf a) (Finset.sum_nonneg fun e _ => hf e), ih]

/-- A sum over the edges that start at `i`, gathered by where they end. -/
theorem sum_by_end (I J : Fin 192 → Fin 128) (F : Fin 192 → EReal) (i : Fin 128) :
    (∑ e, if I e = i then F e else 0) = ∑ j, ∑ e, if I e = i ∧ J e = j then F e else 0 := by
  rw [Finset.sum_comm]
  refine Finset.sum_congr rfl fun e _ => ?_
  by_cases h : I e = i
  · simp [h]
  · simp [h]

/-- A sum over the edges of one pair, each a share of a common factor. -/
theorem sum_pair_mul (I J : Fin 192 → Fin 128) (f : Fin 192 → EReal) (hf : ∀ e, 0 ≤ f e) (c : EReal) (i j : Fin 128) :
    (∑ e, if I e = i ∧ J e = j then f e * c else 0) = (∑ e, if I e = i ∧ J e = j then f e else 0) * c := by
  rw [sum_mul_right]
  · refine Finset.sum_congr rfl fun e _ => ?_
    split <;> simp
  · intro e; split
    · exact hf e
    · exact le_rfl

/-- The largest score over a row's edges is the largest over the pairs the edges name. -/
theorem edgeTop_eq (I J : Fin 192 → Fin 128) (em : Fin 128 → Fin 128 → Prop)
    (hem : ∀ i j, em i j ↔ ∃ e, I e = i ∧ J e = j) (s : Mat 128 128) (i : Fin 128) :
    edgeTop I (fun e => s (I e) (J e)) i = top em s i := by
  apply le_antisymm
  · refine Finset.fold_max_le _ |>.2 ⟨bot_le, fun e _ => ?_⟩
    by_cases h : I e = i
    · rw [if_pos h]
      refine Finset.le_fold_max _ |>.2 (Or.inr ⟨J e, Finset.mem_univ _, ?_⟩)
      rw [if_pos ((hem i (J e)).2 ⟨e, h, rfl⟩)]
      simp only [h, le_refl]
    · rw [if_neg h]; exact bot_le
  · refine Finset.fold_max_le _ |>.2 ⟨bot_le, fun j _ => ?_⟩
    by_cases h : em i j
    · rw [if_pos h]
      obtain ⟨e, h1, h2⟩ := (hem i j).1 h
      refine Finset.le_fold_max _ |>.2 (Or.inr ⟨e, Finset.mem_univ _, ?_⟩)
      simp [h1, h2]
    · rw [if_neg h]; exact bot_le

/-- The ideal exponential is never negative. -/
theorem exp_nonneg (x : EReal) : 0 ≤ Ideal.exp x := by
  induction x with
  | bot => exact le_rfl
  | top => exact le_top
  | coe x => exact EReal.coe_nonneg.2 (Real.exp_pos x).le

/-- The ideal exponential of −∞ is zero. -/
theorem exp_bot : Ideal.exp ⊥ = 0 := rfl

/-- A quotient of zero by zero is −∞, wherever the zero comes from. -/
theorem div_zero_zero : Ideal.div 0 0 = ⊥ := by simp [Ideal.div]

/-- The edge-by-edge sum is the dense one, where the edges of each pair share its weight (`hsum`), the pairs kept are
    those the edges name (`hem`), and an edge's score and value are its pair's. -/
theorem sparseAgg_eq (I J : Fin 192 → Fin 128) (rw : Fin 192 → EReal) (em : Fin 128 → Fin 128 → Prop)
    (hem : ∀ i j, em i j ↔ ∃ e, I e = i ∧ J e = j) (hrw : ∀ e, 0 ≤ rw e)
    (hsum : ∀ i j, em i j → (∑ e, if I e = i ∧ J e = j then rw e else 0) = 1)
    (s v : Mat 128 128) (i : Fin 128) :
    sparseAgg I rw (fun e => s (I e) (J e)) (fun e => v (I e) (J e)) i = denseAgg em s v i := by
  have hnone : ∀ i j, ¬ em i j → ∀ F : Fin 192 → EReal, (∑ e, if I e = i ∧ J e = j then F e else 0) = 0 := by
    intro i j h F
    refine Finset.sum_eq_zero fun e _ => if_neg fun he => h ((hem i j).2 ⟨e, he⟩)
  -- the weights of a pair that is kept
  have hprob : ∀ i j, em i j → prob em s i j = Ideal.exp (s i j - top em s i) := by
    intro i j h; rw [prob, if_pos h]
  have hprob0 : ∀ i j, ¬ em i j → prob em s i j = 0 := by
    intro i j h; rw [prob, if_neg h, EReal.bot_sub, exp_bot]
  have hz : ∀ e, edgeZ I rw (fun e => s (I e) (J e)) e = rw e * prob em s (I e) (J e) := by
    intro e
    rw [edgeZ, edgeTop_eq I J em hem, hprob _ _ ((hem _ _).2 ⟨e, rfl, rfl⟩)]
  have hpos : ∀ i j, 0 ≤ prob em s i j := fun i j => exp_nonneg _
  have hden : edgeDen I rw (fun e => s (I e) (J e)) i = ∑ j, prob em s i j := by
    rw [edgeDen, sum_by_end I J]
    refine Finset.sum_congr rfl fun j _ => ?_
    have : (∑ e, if I e = i ∧ J e = j then edgeZ I rw (fun e => s (I e) (J e)) e else 0)
        = ∑ e, if I e = i ∧ J e = j then rw e * prob em s i j else 0 := by
      refine Finset.sum_congr rfl fun e _ => ?_
      by_cases h : I e = i ∧ J e = j
      · rw [if_pos h, if_pos h, hz, h.1, h.2]
      · rw [if_neg h, if_neg h]
    rw [this, sum_pair_mul I J rw hrw]
    by_cases h : em i j
    · rw [hsum i j h, one_mul]
    · rw [hnone i j h, zero_mul, hprob0 i j h]
  rw [sparseAgg, sum_by_end I J, denseAgg]
  refine Finset.sum_congr rfl fun j _ => ?_
  by_cases h : em i j
  · have hstep : (∑ e, if I e = i ∧ J e = j then
          Ideal.div (edgeZ I rw (fun e => s (I e) (J e)) e) (edgeDen I rw (fun e => s (I e) (J e)) (I e)) * v (I e) (J e) else 0)
        = ∑ e, if I e = i ∧ J e = j then Ideal.div (rw e * prob em s i j) (∑ j', prob em s i j') * v i j else 0 := by
      refine Finset.sum_congr rfl fun e _ => ?_
      by_cases h : I e = i ∧ J e = j
      · rw [if_pos h, if_pos h, hz, h.1, h.2, hden]
      · rw [if_neg h, if_neg h]
    rw [hstep, att, if_pos h]
    by_cases h0 : (∑ j', prob em s i j') = 0
    · have hp : prob em s i j = 0 :=
        (Finset.sum_eq_zero_iff_of_nonneg fun j' _ => hpos i j').1 h0 j (Finset.mem_univ _)
      simp only [hp, h0, mul_zero, div_zero_zero]
      obtain ⟨e0, he0⟩ := (hem i j).1 h
      rw [← Finset.sum_filter, Finset.sum_const]
      have hcard : (Finset.univ.filter fun e => I e = i ∧ J e = j).card ≠ 0 :=
        Finset.card_ne_zero_of_mem (Finset.mem_filter.2 ⟨Finset.mem_univ e0, he0⟩)
      obtain ⟨n, hn⟩ := Nat.exists_eq_succ_of_ne_zero hcard
      rw [hn]
      have hb : ∀ y : EReal, ⊥ * y = ⊥ ∨ ⊥ * y = 0 ∨ ⊥ * y = ⊤ := by
        intro y
        rcases lt_trichotomy y 0 with hy | hy | hy
        · exact Or.inr (Or.inr (EReal.bot_mul_of_neg hy))
        · exact Or.inr (Or.inl (by rw [hy, mul_zero]))
        · exact Or.inl (EReal.bot_mul_of_pos hy)
      clear hn hcard
      induction n with
      | zero => simp
      | succ n ih =>
        rw [Nat.succ_eq_add_one, succ_nsmul, ih]
        rcases hb (v i j) with hy | hy | hy <;> rw [hy] <;> simp
    · have hd : ∀ y, Ideal.div y (∑ j', prob em s i j') = y * (∑ j', prob em s i j')⁻¹ := by
        intro y; rw [Ideal.div, if_neg h0]
      simp only [hd]
      have hinv : 0 ≤ (∑ j', prob em s i j')⁻¹ := EReal.inv_nonneg_of_nonneg (Finset.sum_nonneg fun j' _ => hpos i j')
      have hassoc : ∀ e, rw e * prob em s i j * (∑ j', prob em s i j')⁻¹ * v i j
          = (rw e * (prob em s i j * (∑ j', prob em s i j')⁻¹)) * v i j := by
        intro e; rw [mul_assoc (rw e)]
      simp only [hassoc]
      have hnn : ∀ e, 0 ≤ rw e * (prob em s i j * (∑ j', prob em s i j')⁻¹) := fun e =>
        mul_nonneg (hrw e) (mul_nonneg (hpos i j) hinv)
      rw [sum_pair_mul I J _ hnn, sum_pair_mul I J rw hrw, hsum i j h, one_mul]
  · rw [hnone i j h, att, if_neg h, zero_mul]

end Cert.Proof.Spec

end
-- ==== Proof.Edges.lean ====
/-
  The edge list of one batch element and how edges of one pair share it.

  The first 64 edges are goals and go to slot 0, the other 128 are the routes and go to slot 1. In a slot the last edge
  of a pair stands for the pair, so a pair holds at most two attributes, and its relation is their mean.
-/
module

public import proofs.«01_k».proof.Proof.Spec

@[expose] public section

noncomputable section

namespace Cert.Proof.Spec

open Idealize.ShloMosaic
open scoped BigOperators Classical

/-- The slot of an edge: 0 for a goal, 1 for a route. -/
def slotOf (e : Fin 192) : Fin 2 := if e.val < 64 then 0 else 1

section

variable (I J : Fin 192 → Fin 128)

/-- Edge `e` is the last of slot `b` that names the pair (i, j). -/
def IsLast (b : Fin 2) (i j : Fin 128) (e : Fin 192) : Prop :=
  slotOf e = b ∧ I e = i ∧ J e = j ∧ ∀ e', slotOf e' = b → I e' = i → J e' = j → e' ≤ e

/-- Edge `e` is the last of its slot that names its pair. -/
def Stands (e : Fin 192) : Prop := ∀ e', slotOf e' = slotOf e → I e' = I e → J e' = J e → e' ≤ e

/-- Some edge of slot `b` names the pair (i, j). -/
def InSlot (b : Fin 2) (i j : Fin 128) : Prop := ∃ e, slotOf e = b ∧ I e = i ∧ J e = j

/-- Some edge names the pair (i, j). -/
def Hit (i j : Fin 128) : Prop := ∃ e, I e = i ∧ J e = j

/-- What slot `b` holds at the pair (i, j): `f` of the last edge that names it, zero where none does. -/
def pick (b : Fin 2) (i j : Fin 128) (f : Fin 192 → EReal) : EReal := ∑ e, if IsLast I J b i j e then f e else 0

/-- One where slot `b` holds something at (i, j), zero elsewhere. -/
def bit (b : Fin 2) (i j : Fin 128) : EReal := if InSlot I J b i j then 1 else 0

/-- How many slots hold something at (i, j). -/
def count (i j : Fin 128) : EReal := bit I J 0 i j + bit I J 1 i j

/-- The share of its pair's weight that edge `e` carries. -/
def share (e : Fin 192) : EReal := Ideal.div (if Stands I J e then 1 else 0) (count I J (I e) (J e))

/-- The mean of the attributes that the slots hold at (i, j). -/
def pooled (f : Fin 192 → EReal) (i j : Fin 128) : EReal :=
  Ideal.div (pick I J 0 i j f + pick I J 1 i j f) (count I J i j)

variable {I J}

/-- At most one edge is the last. -/
theorem IsLast.unique {b : Fin 2} {i j : Fin 128} {e e' : Fin 192} (h : IsLast I J b i j e) (h' : IsLast I J b i j e') :
    e' = e :=
  le_antisymm (h.2.2.2 e' h'.1 h'.2.1 h'.2.2.1) (h'.2.2.2 e h.1 h.2.1 h.2.2.1)

/-- A slot that holds something at a pair has a last edge there. -/
theorem exists_last {b : Fin 2} {i j : Fin 128} (h : InSlot I J b i j) : ∃ e, IsLast I J b i j e := by
  obtain ⟨e0, h0⟩ := h
  obtain ⟨e, he, hmax⟩ := Finset.exists_max_image
    (Finset.univ.filter fun e => slotOf e = b ∧ I e = i ∧ J e = j) id ⟨e0, by simpa using h0⟩
  have he' : slotOf e = b ∧ I e = i ∧ J e = j := by simpa using he
  exact ⟨e, he'.1, he'.2.1, he'.2.2, fun e' h1 h2 h3 => hmax e' (by simp [h1, h2, h3])⟩

/-- Where `e` is the last, the slot holds its value. -/
theorem pick_of_last {b : Fin 2} {i j : Fin 128} {e : Fin 192} (h : IsLast I J b i j e) (f : Fin 192 → EReal) :
    pick I J b i j f = f e := by
  rw [pick, Finset.sum_eq_single e]
  · rw [if_pos h]
  · intro e' _ hne; exact if_neg fun h' => hne (h.unique h')
  · intro hn; exact absurd (Finset.mem_univ e) hn

/-- Where no edge of the slot names the pair, the slot holds zero. -/
theorem pick_of_none {b : Fin 2} {i j : Fin 128} (h : ¬ InSlot I J b i j) (f : Fin 192 → EReal) :
    pick I J b i j f = 0 :=
  Finset.sum_eq_zero fun e _ => if_neg fun he => h ⟨e, he.1, he.2.1, he.2.2.1⟩

/-- The slot of the constant one is the slot's bit. -/
theorem pick_one (b : Fin 2) (i j : Fin 128) : pick I J b i j (fun _ => 1) = bit I J b i j := by
  by_cases h : InSlot I J b i j
  · obtain ⟨e, he⟩ := exists_last h
    rw [pick_of_last he, bit, if_pos h]
  · rw [pick_of_none h, bit, if_neg h]

/-- A slot number is 0 or 1. -/
theorem slot_cases (b : Fin 2) : b = 0 ∨ b = 1 := by omega

/-- The edges that stand for a pair, summed over both slots. -/
theorem sum_stands (f : Fin 192 → EReal) (i j : Fin 128) :
    (∑ e, if (I e = i ∧ J e = j) ∧ Stands I J e then f e else 0) = pick I J 0 i j f + pick I J 1 i j f := by
  rw [pick, pick, ← Finset.sum_add_distrib]
  refine Finset.sum_congr rfl fun e _ => ?_
  by_cases h : (I e = i ∧ J e = j) ∧ Stands I J e
  · obtain ⟨⟨h1, h2⟩, h3⟩ := h
    have hl : IsLast I J (slotOf e) i j e := ⟨rfl, h1, h2, fun e' a b c => h3 e' a (b.trans h1.symm) (c.trans h2.symm)⟩
    rw [if_pos ⟨⟨h1, h2⟩, h3⟩]
    rcases slot_cases (slotOf e) with hs | hs
    · rw [hs] at hl
      rw [if_pos hl, if_neg (fun h' => by have := h'.1; rw [hs] at this; exact absurd this (by decide)), add_zero]
    · rw [hs] at hl
      rw [if_pos hl, if_neg (fun h' => by have := h'.1; rw [hs] at this; exact absurd this (by decide)), zero_add]
  · have hn : ∀ b, ¬ IsLast I J b i j e := fun b hb => h ⟨⟨hb.2.1, hb.2.2.1⟩, fun e' a b' c =>
      hb.2.2.2 e' (a.trans hb.1) (b'.trans hb.2.1) (c.trans hb.2.2.1)⟩
    rw [if_neg h, if_neg (hn 0), if_neg (hn 1), add_zero]

/-- The count at a pair that an edge names is one or two. -/
theorem count_cases {i j : Fin 128} (h : Hit I J i j) : count I J i j = 1 ∨ count I J i j = 2 := by
  obtain ⟨e, h1, h2⟩ := h
  have he : InSlot I J (slotOf e) i j := ⟨e, rfl, h1, h2⟩
  rw [count, bit, bit]
  rcases slot_cases (slotOf e) with hs | hs <;> rw [hs] at he
  · by_cases h' : InSlot I J 1 i j
    · right; rw [if_pos he, if_pos h']; exact one_add_one_eq_two
    · left; rw [if_pos he, if_neg h', add_zero]
  · by_cases h' : InSlot I J 0 i j
    · right; rw [if_pos he, if_pos h']; exact one_add_one_eq_two
    · left; rw [if_pos he, if_neg h', zero_add]

/-- The count is not negative. -/
theorem count_nonneg (i j : Fin 128) : 0 ≤ count I J i j := by
  rw [count, bit, bit]
  refine add_nonneg ?_ ?_ <;> split <;> first | exact zero_le_one | exact le_rfl

/-- Dividing by the count at a pair that an edge names is multiplying by its inverse. -/
theorem div_count {i j : Fin 128} (h : Hit I J i j) (y : EReal) :
    Ideal.div y (count I J i j) = y * (count I J i j)⁻¹ := by
  have : count I J i j ≠ 0 := by
    rcases count_cases h with h | h <;> rw [h] <;> norm_num
  rw [Ideal.div, if_neg this]

/-- A share is not negative. -/
theorem share_nonneg (e : Fin 192) : 0 ≤ share I J e := by
  rw [share, div_count ⟨e, rfl, rfl⟩]
  refine mul_nonneg ?_ (EReal.inv_nonneg_of_nonneg (count_nonneg _ _))
  split
  · exact zero_le_one
  · exact le_rfl

/-- The shares of a pair's edges sum to one. -/
theorem share_sum {i j : Fin 128} (h : Hit I J i j) : (∑ e, if I e = i ∧ J e = j then share I J e else 0) = 1 := by
  have h1 : (∑ e, if I e = i ∧ J e = j then share I J e else 0)
      = ∑ e, if I e = i ∧ J e = j then (if Stands I J e then (1 : EReal) else 0) * (count I J i j)⁻¹ else 0 := by
    refine Finset.sum_congr rfl fun e _ => ?_
    by_cases h' : I e = i ∧ J e = j
    · rw [if_pos h', if_pos h', share, div_count ⟨e, rfl, rfl⟩, h'.1, h'.2]
    · rw [if_neg h', if_neg h']
  have h2 : (∑ e, if I e = i ∧ J e = j then (if Stands I J e then (1 : EReal) else 0) else 0) = count I J i j := by
    rw [count, ← pick_one, ← pick_one, ← sum_stands]
    refine Finset.sum_congr rfl fun e _ => ?_
    by_cases ha : I e = i ∧ J e = j <;> by_cases hb : Stands I J e <;> simp [ha, hb]
  rw [h1, sum_pair_mul I J (fun e => if Stands I J e then (1 : EReal) else 0), h2]
  · have hcast : ((2 : EReal)) = ((2 : ℝ) : EReal) := rfl
    rcases count_cases h with hc | hc <;> rw [hc]
    · simp
    · rw [hcast, ← EReal.coe_inv, ← EReal.coe_mul]; norm_num
  · intro e; split
    · exact zero_le_one
    · exact le_rfl

/-- The count is at least one where an edge names the pair. -/
theorem max_count {i j : Fin 128} (h : Hit I J i j) : max (count I J i j) 1 = count I J i j := by
  refine max_eq_left ?_
  rcases count_cases h with hc | hc <;> rw [hc]
  exact_mod_cast (by norm_num : (1 : ℝ) ≤ 2)

end

end Cert.Proof.Spec

end
-- ==== Proof.Scalars.lean ====
/-
  Scalars that the programs compute, as the numbers they are: indicator words, lane numbers, the masked "any".
-/
module

public import proofs.«01_k».proof.Proof.Spec
public import Idealize.ShloMosaic.Lib.Pointwise
public import Idealize.ShloMosaic.Lib.WordCmp

@[expose] public section

noncomputable section

namespace Cert.Proof.Scalars

open Idealize.ShloMosaic
open scoped BigOperators

/-- An indicator bit, widened and made a float, is one or zero. -/
theorem ind (p : Prop) [Decidable p] :
    (FloatOps.sitofp .f32 (BitVec.setWidth 32 (BitVec.ofBool (decide p))) : Ideal .f32) = if p then (1 : EReal) else 0 := by
  by_cases h : p
  · rw [if_pos h, decide_eq_true h]
    show (((BitVec.setWidth 32 (BitVec.ofBool true)).toInt : ℝ) : EReal) = 1
    rw [show (BitVec.setWidth 32 (BitVec.ofBool true)).toInt = 1 from by decide]; norm_num
  · rw [if_neg h, decide_eq_false h]
    show (((BitVec.setWidth 32 (BitVec.ofBool false)).toInt : ℝ) : EReal) = 0
    rw [show (BitVec.setWidth 32 (BitVec.ofBool false)).toInt = 0 from by decide]; norm_num

/-- A small natural number as a word, made a float, is itself. -/
theorem nat_float (n : ℕ) (h : n < 2 ^ 31) : (FloatOps.sitofp .f32 (BitVec.ofNat 32 n) : Ideal .f32) = ((n : ℝ) : EReal) := by
  show (((BitVec.ofNat 32 n).toInt : ℝ) : EReal) = _
  rw [WordCmp.toInt_ofNat_of_lt (w := 32) h]; norm_num

/-- Two natural numbers are equal as extended reals just where they are equal. -/
theorem nat_eq (a b : ℕ) : ((a : ℝ) : EReal) = ((b : ℝ) : EReal) ↔ a = b := by
  rw [EReal.coe_eq_coe_iff, Nat.cast_inj]

/-- The word of −∞. -/
theorem ninf : Ideal.ofBits .f32 0xFF800000#32 = ⊥ := by
  simp [Ideal.ofBits, Ideal.ieee]

/-- The maximum of an indicator over all `x`, from −∞, is positive just where some `x` has it. -/
theorem any_pos {n : ℕ} (c : Fin n → BitVec 1) (p : Fin n → Prop) (hp : ∀ x, c x = 1 ↔ p x) :
    (0 < Finset.univ.fold max (⊥ : EReal) fun x => Scalar.select (c x) (1 : EReal) 0) ↔ ∃ x, p x := by
  rw [Finset.lt_fold_max]
  constructor
  · rintro (h | ⟨x, _, h⟩)
    · exact absurd h (by simp)
    · refine ⟨x, (hp x).1 ?_⟩
      by_contra hc
      rw [Scalar.select, if_neg hc] at h
      exact lt_irrefl _ h
  · rintro ⟨x, hx⟩
    refine Or.inr ⟨x, Finset.mem_univ _, ?_⟩
    rw [Scalar.select, if_pos ((hp x).2 hx)]
    exact zero_lt_one

/-- The complement of an indicator bit. -/
theorem not_bit (p : Prop) [Decidable p] :
    IntOp.xori (BitVec.ofBool (decide p)) 1#1 = BitVec.ofBool (decide ¬ p) := by
  by_cases h : p <;> simp [h, IntOp.xori]

/-- A choice by an indicator bit. -/
theorem select_bit {α : Type} (p : Prop) [Decidable p] (a b : α) :
    Scalar.select (BitVec.ofBool (decide p)) a b = if p then a else b := by
  by_cases h : p <;> simp [h, Scalar.select]

/-- The lane's head number, computed by division. -/
theorem lane_div16 (d : Fin 128) : IntOp.divsi ArithUnit.vector (BitVec.ofNat 32 d) 16#32 = BitVec.ofNat 32 (d.val / 16) := by
  revert d; decide

/-- The lane's feature number, computed by division. -/
theorem lane_div32 (d : Fin 128) : IntOp.divsi ArithUnit.vector (BitVec.ofNat 32 d) 32#32 = BitVec.ofNat 32 (d.val / 32) := by
  revert d; decide

/-- The lane's place in its feature, computed by remainder. -/
theorem lane_rem32 (d : Fin 128) : IntOp.remsi ArithUnit.vector (BitVec.ofNat 32 d) 32#32 = BitVec.ofNat 32 (d.val % 32) := by
  revert d; decide

end Cert.Proof.Scalars

end
-- ==== Proof.EdgeBody.lean ====
/-
  What the kernel's body computes about the edges of its batch element: the one-hot matrices of their ends, which edges
  stand for their pairs, their shares, and the attributes a pair pools.
-/
module

public import proofs.«01_k».proof.Proof.Gen.KernelIdeal.Skeleton
public import proofs.«01_k».proof.Proof.Edges
public import proofs.«01_k».proof.Proof.Scalars

@[expose] public section

noncomputable section

namespace Cert.Proof.Body

open Idealize.ShloMosaic Cert.KernelIdeal Cert.KernelIdeal.Gen Cert.Proof.Spec Cert.Proof.Scalars
open scoped BigOperators Classical

variable {I J : Fin 192 → Fin 128}

/-- The indicator of an edge's end. -/
theorem hot_bit {v5 : FVec Ideal S192x1 .f32} (hI : ∀ e, v5 (ix2 e 0) = (((I e).val : ℝ) : EReal)) (e : Fin 192)
    (i : Fin 128) : k0_pay21 v5 (ix2 e i) = BitVec.ofBool (decide (I e = i)) := by
  pointwise [k0_pay21, k0_pay20]
  rw [hI, nat_float _ (by omega)]
  congr 1
  rw [decide_eq_decide, nat_eq, Fin.ext_iff]

/-- The one-hot matrix of the edges' ends. -/
theorem hot_first {v5 : FVec Ideal S192x1 .f32} (hI : ∀ e, v5 (ix2 e 0) = (((I e).val : ℝ) : EReal)) (e : Fin 192)
    (i : Fin 128) : k0_pay22 v5 (ix2 e i) = if I e = i then 1 else 0 := by
  have h := hot_bit hI e i
  unfold k0_pay22
  show (FloatOps.sitofp .f32 (BitVec.setWidth 32 (k0_pay21 v5 (ix2 e i))) : Ideal .f32) = _
  rw [h, ind]

/-- The one-hot matrix of the edges' other ends. -/
theorem hot_second {v7 : FVec Ideal S192x1 .f32} (hJ : ∀ e, v7 (ix2 e 0) = (((J e).val : ℝ) : EReal)) (e : Fin 192)
    (i : Fin 128) : k0_pay23 v7 (ix2 e i) = if J e = i then 1 else 0 :=
  hot_first hJ e i

/-- The matrix that spreads a head over its sixteen lanes. -/
theorem spread_apply (h : Fin 8) (d : Fin 128) : k0_pay10 (F := Ideal) (ix2 h d) = if head d = h then 1 else 0 := by
  pointwise [k0_pay10]
  rw [lane_div16, WordCmp.cmpi_eq_ofNat (by omega) (by omega), ind]
  simp only [head, Fin.ext_iff]

/-- The matrix that spreads a feature over its thirty-two lanes. -/
theorem spread4_apply (c : Fin 4) (d : Fin 128) :
    k0_pay9 (F := Ideal) (ix2 c d) = if d.val / 32 = c.val then 1 else 0 := by
  pointwise [k0_pay9]
  rw [lane_div32, WordCmp.cmpi_eq_ofNat (by omega) (by omega), ind]

/-- The lanes coded by a sine. -/
theorem sine_lane (d : Fin 128) : k0_pay8 (ix2 0 d) = BitVec.ofBool (decide (d.val % 32 < 16)) := by
  pointwise [k0_pay8]
  rw [lane_rem32, WordCmp.cmpi_slt_ofNat (by omega) (by omega)]

section Pairs

variable {v11 : FVec Ideal S1x192 .f32} {v33 : FVec Ideal S192x192 .f32}

/-- Two edges have one key just where they name one pair. -/
theorem key_bit (hk : ∀ e x, v33 (ix2 e x) = v11 (ix2 0 x) ↔ (I x = I e ∧ J x = J e)) (e x : Fin 192) :
    k0_pay12 v11 v33 (ix2 e x) = BitVec.ofBool (decide (I x = I e ∧ J x = J e)) := by
  pointwise [k0_pay12]
  congr 1
  rw [decide_eq_decide, hk]

/-- Two edges lie in one slot. -/
theorem slot_bit (e x : Fin 192) : k0_pay13 (ix2 e x) = BitVec.ofBool (decide (slotOf x = slotOf e)) := by
  pointwise [k0_pay13]
  rw [WordCmp.cmpi_slt_ofNat (by omega) (by omega), WordCmp.cmpi_slt_ofNat (by omega) (by omega)]
  unfold slotOf
  by_cases h1 : e.val < 64 <;> by_cases h2 : x.val < 64 <;> simp [h1, h2, IntOp.xori]

/-- An edge stands for its pair where no later edge of its slot names the pair. -/
theorem stands_iff (e : Fin 192) :
    Stands I J e ↔ ¬ ∃ x, ((I x = I e ∧ J x = J e) ∧ e < x) ∧ slotOf x = slotOf e := by
  unfold Stands
  constructor
  · rintro h ⟨x, ⟨⟨h1, h2⟩, h3⟩, h4⟩
    exact absurd h3 (not_lt.2 (h x h4 h1 h2))
  · intro h x h4 h1 h2
    exact not_lt.1 fun h3 => h ⟨x, ⟨⟨h1, h2⟩, h3⟩, h4⟩

/-- The edges that stand for their pairs, as a column. -/
theorem stands_column (hk : ∀ e x, v33 (ix2 e x) = v11 (ix2 0 x) ↔ (I x = I e ∧ J x = J e)) (e : Fin 192) :
    k0_pay14 v11 v33 (ix2 e 0) = BitVec.ofBool (decide (Stands I J e)) := by
  pointwise [k0_pay14]
  rw [ninf, not_bit]
  congr 1
  rw [decide_eq_decide, stands_iff, not_iff_not]
  apply any_pos
  intro x
  rw [key_bit hk, slot_bit, WordCmp.cmpi_sgt_ofNat (by omega) (by omega)]
  simp only [WordCmp.andi_ofBool, WordCmp.ofBool_eq_one_iff', Bool.and_eq_true, decide_eq_true_eq, Fin.lt_def]

/-- The edges that stand for their pairs, as a row. -/
theorem stands_row (hk : ∀ e x, v33 (ix2 e x) = v11 (ix2 0 x) ↔ (I x = I e ∧ J x = J e)) (e : Fin 192) :
    k0_pay15 v11 v33 (ix2 0 e) = BitVec.ofBool (decide (Stands I J e)) := by
  pointwise [k0_pay15]
  rw [ninf, not_bit]
  congr 1
  rw [decide_eq_decide, stands_iff, not_iff_not]
  apply any_pos
  intro x
  rw [key_bit hk, slot_bit, WordCmp.cmpi_sgt_ofNat (by omega) (by omega)]
  simp only [WordCmp.andi_ofBool, WordCmp.ofBool_eq_one_iff', Bool.and_eq_true, decide_eq_true_eq, Fin.lt_def]
  constructor
  · rintro ⟨⟨⟨h1, h2⟩, h3⟩, h4⟩; exact ⟨⟨⟨h1.symm, h2.symm⟩, h3⟩, h4.symm⟩
  · rintro ⟨⟨⟨h1, h2⟩, h3⟩, h4⟩; exact ⟨⟨⟨h1.symm, h2.symm⟩, h3⟩, h4.symm⟩

/-- Slot 0 holds something at an edge's pair. -/
theorem goal_bit (hk : ∀ e x, v33 (ix2 e x) = v11 (ix2 0 x) ↔ (I x = I e ∧ J x = J e)) (e : Fin 192) :
    k0_pay16 v11 v33 (ix2 e 0) = BitVec.ofBool (decide (InSlot I J 0 (I e) (J e))) := by
  pointwise [k0_pay16]
  rw [ninf]
  congr 1
  rw [decide_eq_decide]
  apply any_pos
  intro x
  rw [key_bit hk, WordCmp.cmpi_slt_ofNat (by omega) (by omega)]
  simp only [WordCmp.andi_ofBool, WordCmp.ofBool_eq_one_iff', Bool.and_eq_true, decide_eq_true_eq]
  unfold slotOf
  by_cases h : x.val < 64 <;> simp [h]

variable {v35 : IVec S192x192 1} {v37 : IVec S192x192 32} {v75 v54 : IVec S192x1 1} {v65 : IVec S1x192 1}

/-- How many slots hold something at an edge's pair. -/
theorem count_apply (h35 : ∀ e x, v35 (ix2 e x) = BitVec.ofBool (decide (I x = I e ∧ J x = J e)))
    (h37 : ∀ e x : Fin 192, v37 (ix2 e x) = BitVec.ofNat 32 x.val)
    (h75 : ∀ e, v75 (ix2 e 0) = BitVec.ofBool (decide (InSlot I J 0 (I e) (J e)))) (e : Fin 192) :
    k0_pay17 (F := Ideal) v35 v37 v75 (ix2 e 0) = count I J (I e) (J e) := by
  pointwise [k0_pay17]
  rw [ninf, h75, ind]
  have : (0 < Finset.fold max (⊥ : EReal)
      (fun x => Scalar.select (IntOp.andi (v35 (ix2 e x)) (IntOp.cmpi CmpIPredicate.sge (v37 (ix2 e x)) 64#32)) (1 : EReal) 0)
      Finset.univ) ↔ InSlot I J 1 (I e) (J e) := by
    apply any_pos
    intro x
    rw [h35, h37, WordCmp.cmpi_sge_ofNat (by omega) (by omega)]
    simp only [WordCmp.andi_ofBool, WordCmp.ofBool_eq_one_iff', Bool.and_eq_true, decide_eq_true_eq]
    unfold slotOf
    by_cases h : x.val < 64
    · simp [h]
    · simp [h, not_lt.1 h]
  simp only [this]
  rw [ind]
  rfl

/-- An edge's share. -/
theorem share_apply (h35 : ∀ e x, v35 (ix2 e x) = BitVec.ofBool (decide (I x = I e ∧ J x = J e)))
    (h37 : ∀ e x : Fin 192, v37 (ix2 e x) = BitVec.ofNat 32 x.val)
    (h75 : ∀ e, v75 (ix2 e 0) = BitVec.ofBool (decide (InSlot I J 0 (I e) (J e))))
    (h54 : ∀ e, v54 (ix2 e 0) = BitVec.ofBool (decide (Stands I J e))) (e : Fin 192) :
    k0_pay19 (F := Ideal) v35 v37 v54 v75 (ix2 e 0) = share I J e := by
  pointwise [k0_pay19]
  rw [h54, ind, count_apply h35 h37 h75]
  rfl

/-- The attributes that an edge's pair pools. -/
theorem pool_apply (h35 : ∀ e x, v35 (ix2 e x) = BitVec.ofBool (decide (I x = I e ∧ J x = J e)))
    (h37 : ∀ e x : Fin 192, v37 (ix2 e x) = BitVec.ofNat 32 x.val)
    (h75 : ∀ e, v75 (ix2 e 0) = BitVec.ofBool (decide (InSlot I J 0 (I e) (J e))))
    (h65 : ∀ e, v65 (ix2 0 e) = BitVec.ofBool (decide (Stands I J e)))
    (v3 : FVec Ideal S192x128 .f32) (e : Fin 192) (d : Fin 128) :
    k0_pay18 (F := Ideal) v3 v35 v37 v65 v75 (ix2 e d) = pooled I J (fun x => v3 (ix2 x d)) (I e) (J e) := by
  pointwise [k0_pay18]
  rw [count_apply h35 h37 h75, pooled, ← sum_stands]
  congr 1
  refine Finset.sum_congr rfl fun x _ => ?_
  rw [h35, h65, ind, ind]
  by_cases ha : I x = I e ∧ J x = J e <;> by_cases hb : Stands I J x <;> simp [ha, hb]

end Pairs

end Cert.Proof.Body

end
-- ==== Proof.Geometry.lean ====
/-
  How a pair of agents sees one another: distance, relative heading, bearing, and the sinusoidal code of the three.
-/
module

public import proofs.«01_k».proof.Proof.Spec

@[expose] public section

noncomputable section

namespace Cert.Proof.Spec

open Idealize.ShloMosaic
open scoped BigOperators Classical

/-- The positions and the headings of one batch element's agents. -/
structure Agents where
  px : Fin 128 → EReal
  py : Fin 128 → EReal
  hd : Fin 128 → EReal

/-- The printed 2π. -/
def tau : EReal := Ideal.ofBits .f32 0x40C90FDB#32
/-- The printed π. -/
def pi : EReal := Ideal.ofBits .f32 0x40490FDB#32

/-- An angle shifted by π and reduced modulo 2π, the remainder moved to the sign of the divisor, and shifted back. -/
def wrap (a : EReal) : EReal :=
  (if (decide (Ideal.remf (a + pi) tau < 0) ^^ decide (tau < 0)) = true ∧ Ideal.remf (a + pi) tau ≠ 0
    then Ideal.remf (a + pi) tau + tau else Ideal.remf (a + pi) tau) - pi

namespace Agents

variable (A : Agents)

/-- How far `j` lies from `i` along the first axis. -/
def dx (i j : Fin 128) : EReal := A.px j - A.px i
/-- How far `j` lies from `i` along the second axis. -/
def dy (i j : Fin 128) : EReal := A.py j - A.py i

/-- The distance of agents `i` and `j`. -/
def dist (i j : Fin 128) : EReal := Ideal.sqrt (A.dx i j * A.dx i j + A.dy i j * A.dy i j)

/-- The heading of `j` as seen from `i`. -/
def turn (i j : Fin 128) : EReal := wrap (A.hd j - A.hd i)

/-- The direction in which `i` sees `j`, measured from `i`'s heading. -/
def bearing (i j : Fin 128) : EReal :=
  Ideal.atan2 (Ideal.cos (A.hd i) * A.dy i j - Ideal.sin (A.hd i) * A.dx i j)
    (Ideal.cos (A.hd i) * A.dx i j + Ideal.sin (A.hd i) * A.dy i j)

/-- The four features of a pair, the bearing twice. -/
def feature (k : Fin 4) (i j : Fin 128) : EReal :=
  if k.val = 0 then A.dist i j else if k.val = 1 then A.turn i j else A.bearing i j

/-- The feature that lane `d` codes: thirty-two lanes a feature. -/
def feat (d : Fin 128) : Fin 4 := ⟨d.val / 32, by omega⟩

/-- The frequency index of lane `d`. -/
def slotIn (d : Fin 128) : Fin 16 := ⟨d.val % 16, by omega⟩

/-- The sinusoidal code of a pair in lane `d`, over the frequencies `freq`. -/
def code (freq : Fin 16 → EReal) (i j d : Fin 128) : EReal :=
  if d.val % 32 < 16 then Ideal.sin (Ideal.div (A.feature (feat d) i j) (freq (slotIn d)))
  else Ideal.cos (Ideal.div (A.feature (feat d) i j) (freq (slotIn d)))

/-- Where two agents stand on one spot the bearing is zero. -/
theorem bearing_of_same {i j : Fin 128} (hx : A.dx i j = 0) (hy : A.dy i j = 0) : A.bearing i j = 0 := by
  have : Ideal.atan2 0 0 = 0 := by
    change Ideal.atan2 ((0 : ℝ) : EReal) ((0 : ℝ) : EReal) = 0
    show (((if (0 : ℝ) < 0 then Real.arctan (0 / 0)
      else if (0 : ℝ) < 0 then (if (0 : ℝ) ≤ 0 then Real.arctan (0 / 0) + Real.pi else Real.arctan (0 / 0) - Real.pi)
      else if (0 : ℝ) < 0 then Real.pi / 2 else if (0 : ℝ) < 0 then -(Real.pi / 2) else 0 : ℝ)) : EReal) = 0
    simp
  rw [bearing, hx, hy]
  simpa using this

end Agents

end Cert.Proof.Spec

end
-- ==== Proof.RelBody.lean ====
/-
  What the kernel's body computes of an edge's geometry: the two agents' offsets, the three features and their code.
-/
module

public import proofs.«01_k».proof.Proof.EdgeBody
public import proofs.«01_k».proof.Proof.Geometry

@[expose] public section

noncomputable section

namespace Cert.Proof.Body

open Idealize.ShloMosaic Cert.KernelIdeal Cert.KernelIdeal.Gen Cert.Proof.Spec Cert.Proof.Scalars
open scoped BigOperators Classical

section

variable {I J : Fin 192 → Fin 128} {A : Agents} {v5 v7 : FVec Ideal S192x1 .f32} {v13 : FVec Ideal S128x8 .f32}

/-- An edge's offset along the first axis. -/
theorem dx_apply (hI : ∀ e, v5 (ix2 e 0) = (((I e).val : ℝ) : EReal)) (hJ : ∀ e, v7 (ix2 e 0) = (((J e).val : ℝ) : EReal))
    (hx : ∀ i, v13 (ix2 i 0) = A.px i) (e : Fin 192) : k0_pay26 v5 v7 v13 (ix2 e 0) = A.dx (I e) (J e) := by
  have h1 := hot_first hI
  have h2 := hot_second hJ
  unfold k0_pay26 k0_pay25 k0_pay24
  generalize k0_pay22 v5 = a at h1 ⊢
  generalize k0_pay23 v7 = b at h2 ⊢
  pointwise
  simp only [h1, h2, ite_mul, one_mul, zero_mul, Finset.sum_ite_eq, Finset.mem_univ, if_true]
  exact congrArg₂ (· - ·) (hx _) (hx _)

/-- An edge's offset along the second axis. -/
theorem dy_apply (hI : ∀ e, v5 (ix2 e 0) = (((I e).val : ℝ) : EReal)) (hJ : ∀ e, v7 (ix2 e 0) = (((J e).val : ℝ) : EReal))
    (hy : ∀ i, v13 (ix2 i 1) = A.py i) (e : Fin 192) : k0_pay27 v5 v7 v13 (ix2 e 0) = A.dy (I e) (J e) := by
  have h1 := hot_first hI
  have h2 := hot_second hJ
  unfold k0_pay27 k0_pay25 k0_pay24
  generalize k0_pay22 v5 = a at h1 ⊢
  generalize k0_pay23 v7 = b at h2 ⊢
  pointwise
  simp only [h1, h2, ite_mul, one_mul, zero_mul, Finset.sum_ite_eq, Finset.mem_univ, if_true]
  exact congrArg₂ (· - ·) (hy _) (hy _)

/-- The heading of the agent an edge starts from. -/
theorem hd_apply (hI : ∀ e, v5 (ix2 e 0) = (((I e).val : ℝ) : EReal)) (hh : ∀ i, v13 (ix2 i 2) = A.hd i) (e : Fin 192) :
    k0_pay28 v5 v13 (ix2 e 0) = A.hd (I e) := by
  have h1 := hot_first hI
  unfold k0_pay28 k0_pay24
  generalize k0_pay22 v5 = a at h1 ⊢
  pointwise
  simp only [h1, ite_mul, one_mul, zero_mul, Finset.sum_ite_eq, Finset.mem_univ, if_true]
  exact hh _

/-- An edge's length. -/
theorem dist_apply (hI : ∀ e, v5 (ix2 e 0) = (((I e).val : ℝ) : EReal)) (hJ : ∀ e, v7 (ix2 e 0) = (((J e).val : ℝ) : EReal))
    (hx : ∀ i, v13 (ix2 i 0) = A.px i) (hy : ∀ i, v13 (ix2 i 1) = A.py i) (e : Fin 192) :
    k0_pay29 v5 v7 v13 (ix2 e 0) = A.dist (I e) (J e) := by
  have h1 := dx_apply hI hJ hx e
  have h2 := dy_apply hI hJ hy e
  unfold k0_pay29
  generalize k0_pay26 v5 v7 v13 = a at h1 ⊢
  generalize k0_pay27 v5 v7 v13 = b at h2 ⊢
  pointwise
  rw [h1, h2]
  rfl

/-- The difference of an edge's headings. -/
theorem dhd_apply (hI : ∀ e, v5 (ix2 e 0) = (((I e).val : ℝ) : EReal)) (hJ : ∀ e, v7 (ix2 e 0) = (((J e).val : ℝ) : EReal))
    (hh : ∀ i, v13 (ix2 i 2) = A.hd i) (e : Fin 192) :
    k0_pay30 v5 v7 v13 (ix2 e 0) = A.hd (J e) - A.hd (I e) := by
  have h1 := hd_apply hI hh e
  have h2 := hot_second hJ
  unfold k0_pay30 k0_pay25
  generalize k0_pay28 v5 v13 = a at h1 ⊢
  generalize k0_pay23 v7 = b at h2 ⊢
  pointwise
  rw [h1]
  simp only [h2, ite_mul, one_mul, zero_mul, Finset.sum_ite_eq, Finset.mem_univ, if_true]
  exact congrArg (· - _) (hh _)

end

/-- The printed reduction of an angle, its tests taken bit by bit. -/
theorem wrap_select (a : EReal) :
    Scalar.select
        (IntOp.andi
          (IntOp.xori (BitVec.ofBool (decide (Ideal.remf (a + Ideal.ofBits .f32 0x40490FDB#32)
              (Ideal.ofBits .f32 0x40C90FDB#32) < 0)))
            (BitVec.ofBool (decide (Ideal.ofBits .f32 0x40C90FDB#32 < 0))))
          (BitVec.ofBool (decide (Ideal.remf (a + Ideal.ofBits .f32 0x40490FDB#32) (Ideal.ofBits .f32 0x40C90FDB#32) ≠ 0))))
        (Ideal.remf (a + Ideal.ofBits .f32 0x40490FDB#32) (Ideal.ofBits .f32 0x40C90FDB#32)
          + Ideal.ofBits .f32 0x40C90FDB#32)
        (Ideal.remf (a + Ideal.ofBits .f32 0x40490FDB#32) (Ideal.ofBits .f32 0x40C90FDB#32))
      - Ideal.ofBits .f32 0x40490FDB#32 = wrap a := by
  unfold wrap tau pi
  rw [WordCmp.xori_ofBool, WordCmp.andi_ofBool]
  congr 1
  unfold Scalar.select
  simp only [WordCmp.ofBool_eq_one_iff', Bool.and_eq_true, decide_eq_true_eq]

/-- The bearing, its test for agents on one spot taken bit by bit. -/
theorem bearing_select (A : Agents) (i j : Fin 128) :
    Scalar.select
        (IntOp.andi (BitVec.ofBool (decide (A.dx i j = 0))) (BitVec.ofBool (decide (A.dy i j = 0)))) 0
        (Ideal.atan2 (Ideal.cos (A.hd i) * A.dy i j - Ideal.sin (A.hd i) * A.dx i j)
          (Ideal.cos (A.hd i) * A.dx i j + Ideal.sin (A.hd i) * A.dy i j)) = A.bearing i j := by
  rw [WordCmp.andi_ofBool, Scalar.select]
  split
  · rename_i h
    simp only [WordCmp.ofBool_eq_one_iff', Bool.and_eq_true, decide_eq_true_eq] at h
    exact (Agents.bearing_of_same A h.1 h.2).symm
  · rfl

variable {I J : Fin 192 → Fin 128} {A : Agents} {freq : Fin 16 → EReal} {v18 : IVec S1x128 1} {v25 : FVec Ideal S4x128 .f32}
  {v99 : FVec Ideal S192x128 .f32} {v117 v120 v121 v126 v127 : FVec Ideal S192x1 .f32} {v164 : Vec Ideal S1x128 .f32}

/-- An edge's relation: its pooled attributes and the code of its geometry. -/
theorem relation_apply {g : Fin 192 → Fin 128 → EReal}
    (h18 : ∀ d, v18 (ix2 0 d) = BitVec.ofBool (decide (d.val % 32 < 16)))
    (h25 : ∀ (c : Fin 4) (d : Fin 128), v25 (ix2 c d) = if d.val / 32 = c.val then 1 else 0)
    (h99 : ∀ e d, v99 (ix2 e d) = g e d) (h117 : ∀ e, v117 (ix2 e 0) = A.dx (I e) (J e))
    (h120 : ∀ e, v120 (ix2 e 0) = A.dy (I e) (J e)) (h121 : ∀ e, v121 (ix2 e 0) = A.hd (I e))
    (h126 : ∀ e, v126 (ix2 e 0) = A.dist (I e) (J e)) (h127 : ∀ e, v127 (ix2 e 0) = A.hd (J e) - A.hd (I e))
    (h164 : ∀ d, v164 (ix2 0 d) = freq (Agents.slotIn d)) (e : Fin 192) (d : Fin 128) :
    k0_pay31 v18 v25 v99 v117 v120 v121 v126 v127 v164 (ix2 e d) = g e d + A.code freq (I e) (J e) d := by
  have z : ∀ a : Fin 1, a = 0 := fun a => Subsingleton.elim a 0
  have k117 : ∀ e (a : Fin 1), v117 (ix2 e a) = A.dx (I e) (J e) := fun e a => by rw [z a, h117]
  have k120 : ∀ e (a : Fin 1), v120 (ix2 e a) = A.dy (I e) (J e) := fun e a => by rw [z a, h120]
  have k121 : ∀ e (a : Fin 1), v121 (ix2 e a) = A.hd (I e) := fun e a => by rw [z a, h121]
  have k126 : ∀ e (a : Fin 1), v126 (ix2 e a) = A.dist (I e) (J e) := fun e a => by rw [z a, h126]
  have k127 : ∀ e (a : Fin 1), v127 (ix2 e a) = A.hd (J e) - A.hd (I e) := fun e a => by rw [z a, h127]
  pointwise [k0_pay31]
  simp only [h99, h18, select_bit, h164, h25, k117, k120, k121, k126, k127, wrap_select, bearing_select]
  have hf : ∀ x : Fin 4, (if h : x.val < 1 then A.dist (I e) (J e) else
      if h : x.val - 1 < 1 then wrap (A.hd (J e) - A.hd (I e)) else
      if h : x.val - 1 - 1 < 1 then A.bearing (I e) (J e) else A.bearing (I e) (J e)) = A.feature x (I e) (J e) := by
    intro x
    fin_cases x <;> rfl
  have hs : (∑ x : Fin 4, A.feature x (I e) (J e) * (if d.val / 32 = x.val then (1 : EReal) else 0))
      = A.feature (Agents.feat d) (I e) (J e) := by
    rw [Finset.sum_eq_single (Agents.feat d)]
    · rw [if_pos (show d.val / 32 = (Agents.feat d).val from rfl), mul_one]
    · intro b _ hb
      rw [if_neg, mul_zero]
      intro h
      exact hb (Fin.ext h.symm)
    · intro h; exact absurd (Finset.mem_univ _) h
  simp only [hf, hs]
  rfl

end Cert.Proof.Body

end
-- ==== Proof.LayerBody.lean ====
/-
  What the kernel's body computes in a layer: scores and values edge by edge, the attended sum over edges, the
  normalization and the feed-forward block, against the dense layer.
-/
module

public import proofs.«01_k».proof.Proof.Gen.KernelIdeal.Skeleton
public import proofs.«01_k».proof.Proof.Edges
public import proofs.«01_k».proof.Proof.Scalars

@[expose] public section

noncomputable section

namespace Cert.Proof.Body

open Idealize.ShloMosaic Cert.KernelIdeal Cert.KernelIdeal.Gen Cert.Proof.Spec Cert.Proof.Scalars
open scoped BigOperators Classical

/-- The lanes of one head are its sixteen. -/
theorem sum_lanes (h : Fin 8) (f : Fin 128 → EReal) :
    (∑ d, if head d = h then f d else 0) = ∑ t, f (lane h t) := by
  rw [← Finset.sum_filter]
  symm
  refine Finset.sum_bij (fun t _ => lane h t) ?_ ?_ ?_ ?_
  · intro t _
    simp only [Finset.mem_filter, Finset.mem_univ, true_and, head, lane, Fin.ext_iff]
    omega
  · intro a _ b _ hab
    simp only [lane, Fin.ext_iff] at hab ⊢
    omega
  · intro d hd
    simp only [Finset.mem_filter, Finset.mem_univ, true_and, head, Fin.ext_iff] at hd
    exact ⟨⟨d.val % 16, by omega⟩, Finset.mem_univ _, by simp only [lane, Fin.ext_iff]; omega⟩
  · intros; rfl

section

variable {I J : Fin 192 → Fin 128} {rw : Fin 192 → EReal} {W : Layer} {x : Mat 128 128}
  {r : Fin 128 → Fin 128 → Fin 128 → EReal}
  {v1 v235 v253 v270 v273 v276 v279 v326 : FVec Ideal S128x128 .f32} {v32 : FVec Ideal S8x128 .f32}
  {v102 : FVec Ideal S192x1 .f32} {v106 : IVec S192x128 1}
  {v108 v112 v173 v197 : FVec Ideal S192x128 .f32} {v205 : FVec Ideal S192x8 .f32} {v207 : FVec Ideal S192x8x1 .f32}
  {v209 : IVec S192x8x128 1} {v174 v177 v180 v183 v188 v230 : Vec Ideal S1x128x128 .f32}

/-- The score of an edge is its pair's. -/
theorem score_apply (h1 : ∀ i d, v1 (ix2 i d) = x i d)
    (h32 : ∀ (h : Fin 8) d, v32 (ix2 h d) = if head d = h then 1 else 0)
    (h108 : ∀ e i, v108 (ix2 e i) = if I e = i then 1 else 0) (h112 : ∀ e i, v112 (ix2 e i) = if J e = i then 1 else 0)
    (h173 : ∀ e c, v173 (ix2 e c) = r (I e) (J e) c) (h174 : ∀ a b, v174 (ix3 0 a b) = W.Wq a b)
    (h177 : ∀ a b, v177 (ix3 0 a b) = W.Wk a b) (h183 : ∀ a b, v183 (ix3 0 a b) = W.Wkr a b) (e : Fin 192) (h : Fin 8) :
    k0_pay33 v1 v32 v108 v112 v173 v174 v177 v183 (ix2 e h) = W.score x r h (I e) (J e) := by
  pointwise [k0_pay33]
  simp only [h1, h32, h108, h112, h173, h174, h177, h183, ite_mul, mul_ite, one_mul, zero_mul, mul_one, mul_zero,
    Finset.sum_ite_eq, Finset.mem_univ, if_true]
  rw [sum_lanes h fun d => (∑ k, x (I e) k * W.Wq k d) * ((∑ k, x (J e) k * W.Wk k d) + ∑ c, r (I e) (J e) c * W.Wkr c d)]
  rw [Layer.score]
  congr 1
  exact Finset.sum_congr rfl fun t _ => mul_comm _ _

/-- The value of an edge is its pair's. -/
theorem val_apply (h1 : ∀ i d, v1 (ix2 i d) = x i d) (h112 : ∀ e i, v112 (ix2 e i) = if J e = i then 1 else 0)
    (h173 : ∀ e c, v173 (ix2 e c) = r (I e) (J e) c) (h180 : ∀ a b, v180 (ix3 0 a b) = W.Wv a b)
    (h188 : ∀ a b, v188 (ix3 0 a b) = W.Wvr a b) (e : Fin 192) (d : Fin 128) :
    k0_pay32 v1 v112 v173 v180 v188 (ix2 e d) = W.val x r (I e) (J e) d := by
  pointwise [k0_pay32]
  simp only [h1, h112, h173, h180, h188, ite_mul, one_mul, zero_mul, Finset.sum_ite_eq, Finset.mem_univ, if_true]
  rfl

/-- The attended state, the attention summed over the edges. -/
theorem attended_apply {s : Fin 8 → Fin 192 → EReal} {v : Fin 192 → Fin 128 → EReal} (h1 : ∀ i d, v1 (ix2 i d) = x i d)
    (h32 : ∀ (h : Fin 8) d, v32 (ix2 h d) = if head d = h then 1 else 0) (h102 : ∀ e, v102 (ix2 e 0) = rw e)
    (h108 : ∀ e i, v108 (ix2 e i) = if I e = i then 1 else 0) (h197 : ∀ e d, v197 (ix2 e d) = v e d)
    (h205 : ∀ e h, v205 (ix2 e h) = s h e) (h207 : ∀ e h, v207 (ix3 e h 0) = s h e)
    (h209 : ∀ e h i, v209 (ix3 e h i) = BitVec.ofBool (decide (I e = i))) (h230 : ∀ a b, v230 (ix3 0 a b) = W.Wo a b)
    (i d : Fin 128) :
    k0_pay36 v1 v32 v102 v108 v197 v205 v207 (⊥ : EReal) v209 v230 (ix2 i d)
      = attended W x (fun i c => sparseAgg I rw (s (head c)) (fun e => v e c) i) i d := by
  pointwise [k0_pay36]
  simp only [h1, h32, h102, h108, h197, h205, h207, h209, h230, ninf, select_bit, ite_mul, mul_ite, one_mul, zero_mul,
    mul_one, mul_zero, Finset.sum_ite_eq, Finset.mem_univ, if_true]
  rfl

/-- The first layer's normalization. -/
theorem norm_apply {y : Mat 128 128} {c : EReal}
    (h : ∀ i d, k0_pay36 v1 v32 v102 v108 v197 v205 v207 c v209 v230 (ix2 i d) = y i d) (i d : Fin 128) :
    k0_pay37 v1 v32 v102 v108 v197 v205 v207 c v209 v230 (ix2 i d) = norm y i d := by
  generalize hv : k0_pay36 v1 v32 v102 v108 v197 v205 v207 c v209 v230 = v at h
  unfold k0_pay37
  rw [hv]
  pointwise
  simp only [h]
  rfl

/-- The first layer's feed-forward block. -/
theorem forward_apply {y : Mat 128 128} {v254 : Vec Ideal S1x128x256 .f32} {v257 : Vec Ideal S1x1x256 .f32}
    {v263 : Vec Ideal S1x256x128 .f32} {v267 : Vec Ideal S1x1x128 .f32} (h235 : ∀ i d, v235 (ix2 i d) = y i d)
    (h253 : ∀ i d, v253 (ix2 i d) = norm y i d) (h254 : ∀ a b, v254 (ix3 0 a b) = W.W1 a b)
    (h257 : ∀ b, v257 (ix3 0 0 b) = W.b1 b) (h263 : ∀ a b, v263 (ix3 0 a b) = W.W2 a b)
    (h267 : ∀ b, v267 (ix3 0 0 b) = W.b2 b) (i d : Fin 128) :
    k0_pay38 v235 v253 v254 v257 v263 v267 (ix2 i d) = forward W y i d := by
  pointwise [k0_pay38]
  simp only [h235, h253, h254, h257, h263, h267]
  rfl

/-- The scores as a third axis of one column. -/
theorem column_apply (e : Fin 192) (h : Fin 8) :
    k0_pay34 v1 v32 v108 v112 v173 v174 v177 v183 (ix3 e h 0) = k0_pay33 v1 v32 v108 v112 v173 v174 v177 v183 (ix2 e h) := by
  unfold k0_pay34
  generalize k0_pay33 v1 v32 v108 v112 v173 v174 v177 v183 = v
  pointwise

/-- The indicator of an edge's end, the same for every head. -/
theorem heads_apply (e : Fin 192) (h : Fin 8) (i : Fin 128) : k0_pay35 v106 (ix3 e h i) = v106 (ix2 e i) := by
  pointwise [k0_pay35]

/-- The second layer's queries. -/
theorem queries_apply {y : Mat 128 128} {v254 : Vec Ideal S1x128x256 .f32} {v257 : Vec Ideal S1x1x256 .f32}
    {v263 : Vec Ideal S1x256x128 .f32} {v267 : Vec Ideal S1x1x128 .f32}
    (h : ∀ i d, k0_pay38 v235 v253 v254 v257 v263 v267 (ix2 i d) = y i d) (h174 : ∀ a b, v174 (ix3 0 a b) = W.Wq a b)
    (i d : Fin 128) : k0_pay39 v235 v253 v254 v257 v263 v267 v174 (ix2 i d) = mm y W.Wq i d := by
  generalize hv : k0_pay38 v235 v253 v254 v257 v263 v267 = v at h
  unfold k0_pay39
  rw [hv]
  pointwise
  simp only [h, h174]
  rfl

/-- The second layer's keys. -/
theorem keys_apply {y : Mat 128 128} {v254 : Vec Ideal S1x128x256 .f32} {v257 : Vec Ideal S1x1x256 .f32}
    {v263 : Vec Ideal S1x256x128 .f32} {v267 : Vec Ideal S1x1x128 .f32}
    (h : ∀ i d, k0_pay38 v235 v253 v254 v257 v263 v267 (ix2 i d) = y i d) (h174 : ∀ a b, v174 (ix3 0 a b) = W.Wk a b)
    (i d : Fin 128) : k0_pay40 v235 v253 v254 v257 v263 v267 v174 (ix2 i d) = mm y W.Wk i d := by
  generalize hv : k0_pay38 v235 v253 v254 v257 v263 v267 = v at h
  unfold k0_pay40
  rw [hv]
  pointwise
  simp only [h, h174]
  rfl

/-- The second layer's values. -/
theorem values_apply {y : Mat 128 128} {v254 : Vec Ideal S1x128x256 .f32} {v257 : Vec Ideal S1x1x256 .f32}
    {v263 : Vec Ideal S1x256x128 .f32} {v267 : Vec Ideal S1x1x128 .f32}
    (h : ∀ i d, k0_pay38 v235 v253 v254 v257 v263 v267 (ix2 i d) = y i d) (h174 : ∀ a b, v174 (ix3 0 a b) = W.Wv a b)
    (i d : Fin 128) : k0_pay41 v235 v253 v254 v257 v263 v267 v174 (ix2 i d) = mm y W.Wv i d := by
  generalize hv : k0_pay38 v235 v253 v254 v257 v263 v267 = v at h
  unfold k0_pay41
  rw [hv]
  pointwise
  simp only [h, h174]
  rfl

/-- The relation's half-width copy is the relation. -/
theorem half_apply (e : Fin 192) (c : Fin 128) : k0_pay42 v173 (ix2 e c) = v173 (ix2 e c) := by
  pointwise [k0_pay42]

/-- The weights' half-width copy is the weights. -/
theorem half_weights (a b : Fin 128) : k0_pay43 v174 (ix2 a b) = v174 (ix3 0 a b) := by
  pointwise [k0_pay43]

/-- The second layer's attended values, summed over the edges. -/
theorem agg_apply (h32 : ∀ (h : Fin 8) d, v32 (ix2 h d) = if head d = h then 1 else 0)
    (h102 : ∀ e, v102 (ix2 e 0) = rw e) (h106 : ∀ e i, v106 (ix2 e i) = BitVec.ofBool (decide (I e = i)))
    (h108 : ∀ e i, v108 (ix2 e i) = if I e = i then 1 else 0) (h112 : ∀ e i, v112 (ix2 e i) = if J e = i then 1 else 0)
    (h173 : ∀ e c, v173 (ix2 e c) = r (I e) (J e) c) (h273 : ∀ i d, v273 (ix2 i d) = mm x W.Wq i d)
    (h276 : ∀ i d, v276 (ix2 i d) = mm x W.Wk i d) (h279 : ∀ i d, v279 (ix2 i d) = mm x W.Wv i d)
    {v282 : FVec Ideal S192x128 .bf16} {v283 : FVec Ideal S128x128 .bf16} {v285 : Vec Ideal S1x128x128 .f32}
    (h282 : ∀ e c, v282 (ix2 e c) = r (I e) (J e) c) (h283 : ∀ a b, v283 (ix2 a b) = W.Wkr a b)
    (h285 : ∀ a b, v285 (ix3 0 a b) = W.Wvr a b) (i d : Fin 128) :
    k0_pay44 v32 v102 v106 v108 v112 v173 v273 v276 v279 v282 v283 (constant S192x128 .f32 0x00000000#32) v285 (ix2 i d)
      = sparseAgg I rw (fun e => W.score x r (head d) (I e) (J e)) (fun e => W.val x r (I e) (J e) d) i := by
  pointwise [k0_pay44]
  have hm : (Named.named κ "mask" 0xCE6E6B28#32 : Ideal .f32) = ⊥ := IdealRules.named_const.ideal_named_scalar _ _ _ _ rfl
  have hs : ∀ (e : Fin 192) (h : Fin 8), (∑ d, (if head d = h then mm x W.Wq (I e) d * (mm x W.Wk (J e) d + ∑ c, r (I e) (J e) c * W.Wkr c d) else 0))
      * Ideal.ofBits .f32 0x3E800000#32 = W.score x r h (I e) (J e) := by
    intro e h
    rw [sum_lanes h fun d => mm x W.Wq (I e) d * (mm x W.Wk (J e) d + ∑ c, r (I e) (J e) c * W.Wkr c d), Layer.score]
    congr 1
    exact Finset.sum_congr rfl fun t _ => mul_comm _ _
  simp only [h32, h102, h106, h108, h112, h173, h273, h276, h279, h282, h283, h285, hm, ninf, select_bit, ite_mul, mul_ite,
    one_mul, zero_mul, mul_one, mul_zero, Finset.sum_ite_eq, Finset.mem_univ, if_true, hs]
  rfl

/-- The second layer's output from its attended values. -/
theorem second_apply {y a : Mat 128 128} {v327 : Vec Ideal S1x128x128 .f32} {v351 : Vec Ideal S1x128x256 .f32}
    {v354 : Vec Ideal S1x1x256 .f32} {v360 : Vec Ideal S1x256x128 .f32} (h270 : ∀ i d, v270 (ix2 i d) = y i d)
    (h326 : ∀ i d, v326 (ix2 i d) = a i d) (h327 : ∀ c d, v327 (ix3 0 c d) = W.Wo c d)
    (h351 : ∀ a b, v351 (ix3 0 a b) = W.W1 a b) (h354 : ∀ b, v354 (ix3 0 0 b) = W.b1 b)
    (h360 : ∀ a b, v360 (ix3 0 a b) = W.W2 a b) (i d : Fin 128) :
    k0_pay45 v270 v326 v327 v351 v354 v360 (ix2 i d) + W.b2 d = forward W (attended W y a) i d := by
  pointwise [k0_pay45]
  simp only [h270, h326, h327, h351, h354, h360]
  rfl

end

end Cert.Proof.Body

end
-- ==== Proof.Model.lean ====
/-
  One batch element's answer: two layers of attention over the pairs of agents that the goals and the routes name, kept
  where the prompt's mask is set.
-/
module

public import proofs.«01_k».proof.Proof.Edges
public import proofs.«01_k».proof.Proof.Geometry
public import Idealize.ShloMosaic.Lib.Pointwise

@[expose] public section

noncomputable section

namespace Cert.Proof.Spec

open Idealize.ShloMosaic
open scoped BigOperators Classical

/-- The relation of a pair: the attributes it pools and the code of its geometry. -/
def relation (I J : Fin 192 → Fin 128) (f : Fin 192 → Fin 128 → EReal) (A : Agents) (freq : Fin 16 → EReal) :
    Fin 128 → Fin 128 → Fin 128 → EReal :=
  fun i j d => pooled I J (fun e => f e d) i j + A.code freq i j d

/-- The agent an index word names. -/
def agent (w : BitVec 32) : Fin 128 := ⟨w.toNat % 128, by omega⟩

/-- Three lists of sixty-four, one after another. -/
def joined {α : Type} (x y z : Fin 64 → α) (e : Fin 192) : α :=
  if h : e.val < 64 then x ⟨e.val, h⟩ else if h : e.val - 64 < 64 then y ⟨e.val - 64, h⟩ else z ⟨e.val - 64 - 64, by omega⟩

/-- What one batch element brings: prompts and mask, goals and routes with their attributes, and agents. -/
structure Element where
  X : Mat 128 128
  mask : Fin 128 → BitVec 1
  goal : Fin 64 → BitVec 32
  source : Fin 64 → BitVec 32
  target : Fin 64 → BitVec 32
  goalAttr : Fin 64 → Fin 128 → EReal
  routeAttr : Fin 64 → Fin 256 → EReal
  agents : Agents

/-- The frequencies of the sinusoidal code. -/
def freq (k : Fin 16) : EReal :=
  Ideal.pow (Ideal.ofBits .f32 0x461C4000#32)
    (Ideal.div (Ideal.ofBits .f32 0x40000000#32 * FloatOps.sitofp (F := Ideal) .f32 (BitVec.ofNat 32 k.val))
      (Ideal.ofBits .f32 0x42000000#32))

namespace Element

variable (E : Element)

/-- The word an edge starts at: a goal's own agent, a route's source, then a route's target. -/
def firstWord : Fin 192 → BitVec 32 := joined E.goal E.source E.target

/-- The word an edge ends at: a goal's own agent, a route's target, then a route's source. -/
def secondWord : Fin 192 → BitVec 32 := joined E.goal E.target E.source

/-- The agent an edge starts at. -/
def I (e : Fin 192) : Fin 128 := agent (E.firstWord e)

/-- The agent an edge ends at. -/
def J (e : Fin 192) : Fin 128 := agent (E.secondWord e)

/-- An edge's attributes: a goal's, or the half of a route's that faces this way. -/
def attr (e : Fin 192) (d : Fin 128) : EReal :=
  joined (fun k => E.goalAttr k d) (fun k => E.routeAttr k ⟨d.val, by omega⟩) (fun k => E.routeAttr k ⟨128 + d.val, by omega⟩) e

/-- Every index word names an agent. -/
def InRange : Prop := (∀ k, (E.goal k).toNat < 128) ∧ (∀ k, (E.source k).toNat < 128) ∧ ∀ k, (E.target k).toNat < 128

/-- The answer. -/
def result (W : Fin 2 → Layer) : Mat 128 128 := fun i d =>
  if E.mask i = 1#1 then
    (W 1).next (Hit E.I E.J) (relation E.I E.J E.attr E.agents freq)
      ((W 0).next (Hit E.I E.J) (relation E.I E.J E.attr E.agents freq) E.X) i d
  else E.X i d

variable {E}

/-- An edge's start is in range. -/
theorem first_lt (h : E.InRange) (e : Fin 192) : (E.firstWord e).toNat < 128 := by
  unfold firstWord joined
  split
  · exact h.1 _
  · split
    · exact h.2.1 _
    · exact h.2.2 _

/-- An edge's end is in range. -/
theorem second_lt (h : E.InRange) (e : Fin 192) : (E.secondWord e).toNat < 128 := by
  unfold secondWord joined
  split
  · exact h.1 _
  · split
    · exact h.2.2 _
    · exact h.2.1 _

end Element

/-- A batch element's part of the argument arrays. -/
def element (a0 : FVec Ideal ⟨3, ![4, 128, 128]⟩ .f32) (a1 : IVec ⟨2, ![4, 128]⟩ 1) (a2 : FVec Ideal ⟨3, ![4, 64, 128]⟩ .f32)
    (a4 : IVec ⟨3, ![4, 64, 1]⟩ 32) (a5 : FVec Ideal ⟨3, ![4, 64, 256]⟩ .f32) (a7 : IVec ⟨3, ![4, 64, 2]⟩ 32)
    (a8 : FVec Ideal ⟨3, ![4, 128, 2]⟩ .f32) (a9 : FVec Ideal ⟨3, ![4, 128, 1]⟩ .f32) (b : Fin 4) : Element where
  X i d := a0 (ix3 b i d)
  mask i := a1 (ix2 b i)
  goal k := a4 (ix3 b k 0)
  source k := a7 (ix3 b k 0)
  target k := a7 (ix3 b k 1)
  goalAttr k d := a2 (ix3 b k d)
  routeAttr k d := a5 (ix3 b k d)
  agents := ⟨fun i => a8 (ix3 b i 0), fun i => a8 (ix3 b i 1), fun i => a9 (ix3 b i 0)⟩

/-- The two layers' weights out of the argument arrays. -/
def layers (a10 a11 a12 a13 a14 a15 : FVec Ideal ⟨3, ![2, 128, 128]⟩ .f32) (a16 : FVec Ideal ⟨3, ![2, 128, 256]⟩ .f32)
    (a17 : FVec Ideal ⟨2, ![2, 256]⟩ .f32) (a18 : FVec Ideal ⟨3, ![2, 256, 128]⟩ .f32) (a19 : FVec Ideal ⟨2, ![2, 128]⟩ .f32)
    (l : Fin 2) : Layer where
  Wq i d := a10 (ix3 l i d)
  Wk i d := a11 (ix3 l i d)
  Wv i d := a12 (ix3 l i d)
  Wkr i d := a13 (ix3 l i d)
  Wvr i d := a14 (ix3 l i d)
  Wo i d := a15 (ix3 l i d)
  W1 i d := a16 (ix3 l i d)
  b1 d := a17 (ix2 l d)
  W2 i d := a18 (ix3 l i d)
  b2 d := a19 (ix2 l d)

/-- A word in range is its agent's number. -/
theorem agent_val {w : BitVec 32} (h : w.toNat < 128) : (agent w).val = w.toNat := Nat.mod_eq_of_lt h

/-- As a float, a word in range is its agent's number. -/
theorem agent_float {w : BitVec 32} (h : w.toNat < 128) :
    (FloatOps.sitofp .f32 w : Ideal .f32) = (((agent w).val : ℝ) : EReal) := by
  show ((w.toInt : ℝ) : EReal) = _
  rw [agent_val h, BitVec.toInt_eq_toNat_of_lt (by omega)]
  norm_num

/-- Words in range have equal keys just where they name one pair. -/
theorem key_iff {a b c d : BitVec 32} (ha : a.toNat < 128) (hb : b.toNat < 128) (hc : c.toNat < 128) (hd : d.toNat < 128) :
    (FloatOps.sitofp .f32 (IntOp.addi (IntOp.muli a 128#32) b) : Ideal .f32)
        = FloatOps.sitofp .f32 (IntOp.addi (IntOp.muli c 128#32) d)
      ↔ agent c = agent a ∧ agent d = agent b := by
  have hk : ∀ {x y : BitVec 32}, x.toNat < 128 → y.toNat < 128 → (IntOp.addi (IntOp.muli x 128#32) y).toNat = x.toNat * 128 + y.toNat := by
    intro x y hx hy
    show (x * 128#32 + y).toNat = _
    rw [BitVec.toNat_add, BitVec.toNat_mul]
    simp only [BitVec.toNat_ofNat]
    omega
  show (((IntOp.addi (IntOp.muli a 128#32) b).toInt : ℝ) : EReal) = (((IntOp.addi (IntOp.muli c 128#32) d).toInt : ℝ) : EReal) ↔ _
  rw [EReal.coe_eq_coe_iff, Int.cast_inj, BitVec.toInt_eq_toNat_of_lt (by rw [hk ha hb]; omega),
    BitVec.toInt_eq_toNat_of_lt (by rw [hk hc hd]; omega), hk ha hb, hk hc hd, Fin.ext_iff, Fin.ext_iff, agent_val ha,
    agent_val hb, agent_val hc, agent_val hd]
  omega

end Cert.Proof.Spec

end
-- ==== Proof.Body.lean ====
/-
  The kernel's body: the block it writes for a batch element is two dense layers over the pairs the edges name, blended
  with the prompt by its mask.
-/
module

public import proofs.«01_k».proof.Proof.Gen.KernelIdeal.Frame
public import proofs.«01_k».proof.Proof.RelBody
public import proofs.«01_k».proof.Proof.LayerBody
public import proofs.«01_k».proof.Proof.Model

@[expose] public section

noncomputable section

namespace Cert.Proof.Body

open Idealize.ShloMosaic Cert.KernelIdeal Cert.KernelIdeal.Gen Cert.Proof.Spec Cert.Proof.Scalars
open scoped BigOperators Classical

/-- The sum over the edges is the layer's dense attention over the pairs they name. -/
theorem agg_eq (I J : Fin 192 → Fin 128) (W : Layer) (x : Mat 128 128) (r : Fin 128 → Fin 128 → Fin 128 → EReal)
    (i d : Fin 128) :
    sparseAgg I (share I J) (fun e => W.score x r (head d) (I e) (J e)) (fun e => W.val x r (I e) (J e) d) i
      = W.agg x r (Hit I J) i d :=
  sparseAgg_eq I J (share I J) (Hit I J) (fun _ _ => Iff.rfl) share_nonneg (fun _ _ h => share_sum h)
    (W.score x r (head d)) (fun i j => W.val x r i j d) i

/-- The last blend, at an index. -/
theorem blend_apply (v1 v363 : FVec Ideal S128x128 .f32) (v364 : Vec Ideal S1x1x128 .f32) (v368 : Vec Ideal S1x128x1 .f32)
    (i d : Fin 128) :
    k0_pay1 v1 v363 v364 v368 (ix3 0 i d)
      = (v363 (ix2 i d) + v364 (ix3 0 0 d)) * v368 (ix3 0 i 0) + v1 (ix2 i d) * (1 - v368 (ix3 0 i 0)) := by
  pointwise [k0_pay1]

/-- The block the body writes, from the blocks it reads: the two layers over the pairs the edges name, blended with the
    prompt. -/
theorem out_apply {I J : Fin 192 → Fin 128} {A : Agents} {freq : Fin 16 → EReal} {W : Fin 2 → Layer} {X : Mat 128 128}
    {f : Fin 192 → Fin 128 → EReal} {mk : Fin 128 → EReal}
    (x0 : Vec Ideal S1x128x128 .f32) (x1 : Vec Ideal S1x128x1 .f32) (x2 : Vec Ideal S1x192x128 .f32)
    (x3 x4 x5 : Vec Ideal S1x192x1 .f32) (x6 : Vec Ideal S1x1x192 .f32) (x7 : Vec Ideal S1x128x8 .f32)
    (x8 : Vec Ideal S1x128 .f32) (x9 x10 x11 x12 x13 x14 : Vec Ideal S2x128x128 .f32) (x15 : Vec Ideal S2x128x256 .f32)
    (x16 : Vec Ideal S2x1x256 .f32) (x17 : Vec Ideal S2x256x128 .f32) (x18 : Vec Ideal S2x1x128 .f32)
    (h0 : ∀ i d, x0 (ix3 0 i d) = X i d) (h1 : ∀ i, x1 (ix3 0 i 0) = mk i) (h2 : ∀ e d, x2 (ix3 0 e d) = f e d)
    (h3 : ∀ e, x3 (ix3 0 e 0) = (((I e).val : ℝ) : EReal)) (h4 : ∀ e, x4 (ix3 0 e 0) = (((J e).val : ℝ) : EReal))
    (h56 : ∀ e x, x5 (ix3 0 e 0) = x6 (ix3 0 0 x) ↔ (I x = I e ∧ J x = J e))
    (h70 : ∀ i, x7 (ix3 0 i 0) = A.px i) (h71 : ∀ i, x7 (ix3 0 i 1) = A.py i) (h72 : ∀ i, x7 (ix3 0 i 2) = A.hd i)
    (h8 : ∀ d, x8 (ix2 0 d) = freq (Agents.slotIn d))
    (h9 : ∀ l a b, x9 (ix3 l a b) = (W l).Wq a b)
    (h10 : ∀ l a b, x10 (ix3 l a b) = (W l).Wk a b)
    (h11 : ∀ l a b, x11 (ix3 l a b) = (W l).Wv a b)
    (h12 : ∀ l a b, x12 (ix3 l a b) = (W l).Wkr a b)
    (h13 : ∀ l a b, x13 (ix3 l a b) = (W l).Wvr a b)
    (h14 : ∀ l a b, x14 (ix3 l a b) = (W l).Wo a b)
    (h15 : ∀ l a b, x15 (ix3 l a b) = (W l).W1 a b) (h16 : ∀ l b, x16 (ix3 l 0 b) = (W l).b1 b)
    (h17 : ∀ l a b, x17 (ix3 l a b) = (W l).W2 a b) (h18 : ∀ l b, x18 (ix3 l 0 b) = (W l).b2 b)
    (i d : Fin 128) :
    out0_19 x0 x1 x2 x3 x4 x5 x6 x7 x8 x9 x10 x11 x12 x13 x14 x15 x16 x17 x18 (ix3 0 i d)
      = (W 1).next (Hit I J) (relation I J f A freq) ((W 0).next (Hit I J) (relation I J f A freq) X) i d * mk i
        + X i d * (1 - mk i) := by
  have e0 : ∀ i d, k0_pay2 (View.ld x0 r0_0) (ix2 i d) = X i d := fun i d => by pointwise [k0_pay2]; exact h0 i d
  have e2 : ∀ e d, k0_pay3 (View.ld x2 r0_1) (ix2 e d) = f e d := fun e d => by pointwise [k0_pay3]; exact h2 e d
  have e3 : ∀ e, k0_pay4 (View.ld x3 r0_2) (ix2 e 0) = (((I e).val : ℝ) : EReal) := fun e => by
    pointwise [k0_pay4]; exact h3 e
  have e4 : ∀ e, k0_pay5 (View.ld x4 r0_2) (ix2 e 0) = (((J e).val : ℝ) : EReal) := fun e => by
    pointwise [k0_pay5]; exact h4 e
  have e56 : ∀ e x, k0_pay11 (View.ld x5 r0_2) (ix2 e x) = k0_pay6 (View.ld x6 r0_3) (ix2 0 x) ↔ (I x = I e ∧ J x = J e) :=
    fun e x => by
      have a : k0_pay11 (View.ld x5 r0_2) (ix2 e x) = x5 (ix3 0 e 0) := by pointwise [k0_pay11]
      have b : k0_pay6 (View.ld x6 r0_3) (ix2 0 x) = x6 (ix3 0 0 x) := by pointwise [k0_pay6]
      rw [a, b]; exact h56 e x
  have e70 : ∀ i, k0_pay7 (View.ld x7 r0_4) (ix2 i 0) = A.px i := fun i => by pointwise [k0_pay7]; exact h70 i
  have e71 : ∀ i, k0_pay7 (View.ld x7 r0_4) (ix2 i 1) = A.py i := fun i => by pointwise [k0_pay7]; exact h71 i
  have e72 : ∀ i, k0_pay7 (View.ld x7 r0_4) (ix2 i 2) = A.hd i := fun i => by pointwise [k0_pay7]; exact h72 i
  have e8 : ∀ d, View.ld x8 r0_5 (ix2 0 d) = freq (Agents.slotIn d) := fun d => by pointwise; exact h8 d
  have hp : (Named.named κ "mask" 0xCE6E6B28#32 : Ideal .f32) = ⊥ := IdealRules.named_const.ideal_named_scalar _ _ _ _ rfl
  have sq {x : Vec Ideal S2x128x128 .f32} {w : Fin 2 → Mat 128 128} (h : ∀ l a b, x (ix3 l a b) = w l a b) :
      (∀ a b, View.ld x r0_6 (ix3 0 a b) = w 0 a b) ∧ ∀ a b, View.ld x r0_11 (ix3 0 a b) = w 1 a b :=
    ⟨fun a b => by pointwise; exact h 0 a b, fun a b => by pointwise; exact h 1 a b⟩
  have hk := key_bit e56
  have hiota : ∀ e x : Fin 192, iota .tc S192x192 32 [1] iota_S192x192_d1_w32 (ix2 e x) = BitVec.ofNat 32 x.val :=
    fun e x => by pointwise
  have hg := goal_bit e56
  have hrw := share_apply hk hiota hg (stands_column e56)
  have hpool := pool_apply hk hiota hg (stands_row e56) (k0_pay3 (View.ld x2 r0_1))
  simp only [e2] at hpool
  have hr := relation_apply (g := fun e d => pooled I J (fun e => f e d) (I e) (J e)) (A := A) sine_lane spread4_apply hpool
    (dx_apply e3 e4 e70) (dy_apply e3 e4 e71) (hd_apply e3 e72) (dist_apply e3 e4 e70 e71) (dhd_apply e3 e4 e72) e8
  have hi := hot_first e3
  have hj := hot_second e4
  have hb := hot_bit e3
  have hs0 := score_apply (W := W 0) (r := relation I J f A freq) e0 spread_apply hi hj hr (sq h9).1 (sq h10).1 (sq h12).1
  have hv0 := val_apply (W := W 0) (r := relation I J f A freq) e0 hj hr (sq h11).1 (sq h13).1
  have hy0 := attended_apply (W := W 0) (s := fun h e => (W 0).score X (relation I J f A freq) h (I e) (J e))
    (v := fun e d => (W 0).val X (relation I J f A freq) (I e) (J e) d) e0 spread_apply hrw hi hv0 hs0
    (fun e h => (column_apply e h).trans (hs0 e h)) (fun e h i => (heads_apply e h i).trans (hb e i)) (sq h14).1
  simp only [agg_eq] at hy0
  have hn0 := norm_apply hy0
  have hx1 := forward_apply (W := W 0) (v254 := View.ld x15 r0_7) (v257 := View.ld x16 r0_8) (v263 := View.ld x17 r0_9)
    (v267 := View.ld x18 r0_10) hy0 hn0 (fun a b => by pointwise; exact h15 0 a b) (fun b => by pointwise; exact h16 0 b)
    (fun a b => by pointwise; exact h17 0 a b) (fun b => by pointwise; exact h18 0 b)
  have hc := fun e c => (half_apply e c).trans (hr e c)
  have hw : ∀ a b, k0_pay43 (View.ld x12 r0_11) (ix2 a b) = (W 1).Wkr a b := fun a b => (half_weights a b).trans ((sq h12).2 a b)
  have ha1 := agg_apply (W := W 1) (r := relation I J f A freq) spread_apply hrw hb hi hj hr (queries_apply hx1 (sq h9).2) (keys_apply hx1 (sq h10).2)
    (values_apply hx1 (sq h11).2) hc hw (sq h13).2
  simp only [agg_eq] at ha1
  have hout := second_apply (W := W 1) (v351 := View.ld x15 r0_12) (v354 := View.ld x16 r0_13) (v360 := View.ld x17 r0_14)
    hx1 ha1 (sq h14).2 (fun a b => by pointwise; exact h15 1 a b) (fun b => by pointwise; exact h16 1 b)
    (fun a b => by pointwise; exact h17 1 a b)
  have hb2 : ∀ d, View.ld x18 r0_15 (ix3 0 0 d) = (W 1).b2 d := fun d => by pointwise; exact h18 1 d
  have hmk : ∀ i, View.ld x1 r0_16 (ix3 0 i 0) = mk i := fun i => by pointwise; exact h1 i
  unfold_out out0_19
  rw [View.canon_unit_zero (S := S1x128x128) (by decide), blend_apply, hp, hb2, hmk, e0]
  exact congrArg (fun z => z * mk i + X i d * (1 - mk i)) (hout i d)

end Cert.Proof.Body

end
-- ==== Proof.Blocks.lean ====
/-
  Where the windows' blocks lie in their arrays: a batch element's slab of the batched arrays, all of the shared ones.
-/
module

public import proofs.«01_k».proof.Proof.Gen.KernelIdeal.Value
public import Idealize.ShloMosaic.Lib.Pointwise

@[expose] public section

noncomputable section

namespace Cert.Proof.Blocks

open Idealize.ShloMosaic Cert.KernelIdeal Cert.KernelIdeal.Gen Idealize.ShloMosaic.TcCoe

/-- The batch element of a grid point. -/
abbrev batch (t : Fin cfg0.N) : Fin 4 := ⟨t.val, t.isLt⟩

variable (m : (ℓ : Loc nD τ sig) → Buf (Elt Ideal) ℓ) (c : Dev nD) (t : Fin cfg0.N)

/-- Window 0's block index at a grid point: the batch element's. -/
theorem index_0 : ∀ t : Fin cfg0.N, win0_0.index t (0 : Fin 3) = t.val ∧ win0_0.index t (1 : Fin 3) = 0
    ∧ win0_0.index t (2 : Fin 3) = 0 :=
  (by decide +kernel : ∀ t : Fin grid0.N, _)

/-- An index of window 0's block is that index of the batch element's slab. -/
theorem emb_0 (x : Fin 128) (y : Fin 128) : ((cfg0.win 0).blk t).view.emb (ix3 0 x y : S1x128x128.Idx) = (ix3 (batch t) x y : S4x128x128.Idx) := by
  obtain ⟨e0, e1, e2⟩ := index_0 t
  funext a
  apply Fin.ext
  match a with
  | ⟨0, _⟩ => show win0_0.index t (0 : Fin 3) * 1 + 1 * 0 = t.val; omega
  | ⟨1, _⟩ => show win0_0.index t (1 : Fin 3) * 128 + 1 * x.val = x.val; omega
  | ⟨2, _⟩ => show win0_0.index t (2 : Fin 3) * 128 + 1 * y.val = y.val; omega

/-- Window 0's block at a grid point, at an index. -/
theorem blk_0 (x : Fin 128) (y : Fin 128) :
    iblk m c 0 t (ix3 0 x y : S1x128x128.Idx) = V m c main_arg0 (ix3 (batch t) x y : S4x128x128.Idx) := by
  unfold iblk
  rw [View.read_apply, emb_0]
  rfl

/-- Window 1's block index at a grid point: the batch element's. -/
theorem index_1 : ∀ t : Fin cfg0.N, win0_1.index t (0 : Fin 3) = t.val ∧ win0_1.index t (1 : Fin 3) = 0
    ∧ win0_1.index t (2 : Fin 3) = 0 :=
  (by decide +kernel : ∀ t : Fin grid0.N, _)

/-- An index of window 1's block is that index of the batch element's slab. -/
theorem emb_1 (x : Fin 128) (y : Fin 1) : ((cfg0.win 1).blk t).view.emb (ix3 0 x y : S1x128x1.Idx) = (ix3 (batch t) x y : S4x128x1.Idx) := by
  obtain ⟨e0, e1, e2⟩ := index_1 t
  funext a
  apply Fin.ext
  match a with
  | ⟨0, _⟩ => show win0_1.index t (0 : Fin 3) * 1 + 1 * 0 = t.val; omega
  | ⟨1, _⟩ => show win0_1.index t (1 : Fin 3) * 128 + 1 * x.val = x.val; omega
  | ⟨2, _⟩ => show win0_1.index t (2 : Fin 3) * 1 + 1 * y.val = y.val; omega

/-- Window 1's block at a grid point, at an index. -/
theorem blk_1 (x : Fin 128) (y : Fin 1) :
    iblk m c 1 t (ix3 0 x y : S1x128x1.Idx) = V m c main_v23 (ix3 (batch t) x y : S4x128x1.Idx) := by
  unfold iblk
  rw [View.read_apply, emb_1]
  rfl

/-- Window 2's block index at a grid point: the batch element's. -/
theorem index_2 : ∀ t : Fin cfg0.N, win0_2.index t (0 : Fin 3) = t.val ∧ win0_2.index t (1 : Fin 3) = 0
    ∧ win0_2.index t (2 : Fin 3) = 0 :=
  (by decide +kernel : ∀ t : Fin grid0.N, _)

/-- An index of window 2's block is that index of the batch element's slab. -/
theorem emb_2 (x : Fin 192) (y : Fin 128) : ((cfg0.win 2).blk t).view.emb (ix3 0 x y : S1x192x128.Idx) = (ix3 (batch t) x y : S4x192x128.Idx) := by
  obtain ⟨e0, e1, e2⟩ := index_2 t
  funext a
  apply Fin.ext
  match a with
  | ⟨0, _⟩ => show win0_2.index t (0 : Fin 3) * 1 + 1 * 0 = t.val; omega
  | ⟨1, _⟩ => show win0_2.index t (1 : Fin 3) * 192 + 1 * x.val = x.val; omega
  | ⟨2, _⟩ => show win0_2.index t (2 : Fin 3) * 128 + 1 * y.val = y.val; omega

/-- Window 2's block at a grid point, at an index. -/
theorem blk_2 (x : Fin 192) (y : Fin 128) :
    iblk m c 2 t (ix3 0 x y : S1x192x128.Idx) = V m c main_v19 (ix3 (batch t) x y : S4x192x128.Idx) := by
  unfold iblk
  rw [View.read_apply, emb_2]
  rfl

/-- Window 3's block index at a grid point: the batch element's. -/
theorem index_3 : ∀ t : Fin cfg0.N, win0_3.index t (0 : Fin 3) = t.val ∧ win0_3.index t (1 : Fin 3) = 0
    ∧ win0_3.index t (2 : Fin 3) = 0 :=
  (by decide +kernel : ∀ t : Fin grid0.N, _)

/-- An index of window 3's block is that index of the batch element's slab. -/
theorem emb_3 (x : Fin 192) (y : Fin 1) : ((cfg0.win 3).blk t).view.emb (ix3 0 x y : S1x192x1.Idx) = (ix3 (batch t) x y : S4x192x1.Idx) := by
  obtain ⟨e0, e1, e2⟩ := index_3 t
  funext a
  apply Fin.ext
  match a with
  | ⟨0, _⟩ => show win0_3.index t (0 : Fin 3) * 1 + 1 * 0 = t.val; omega
  | ⟨1, _⟩ => show win0_3.index t (1 : Fin 3) * 192 + 1 * x.val = x.val; omega
  | ⟨2, _⟩ => show win0_3.index t (2 : Fin 3) * 1 + 1 * y.val = y.val; omega

/-- Window 3's block at a grid point, at an index. -/
theorem blk_3 (x : Fin 192) (y : Fin 1) :
    iblk m c 3 t (ix3 0 x y : S1x192x1.Idx) = V m c main_v12 (ix3 (batch t) x y : S4x192x1.Idx) := by
  unfold iblk
  rw [View.read_apply, emb_3]
  rfl

/-- Window 4's block index at a grid point: the batch element's. -/
theorem index_4 : ∀ t : Fin cfg0.N, win0_4.index t (0 : Fin 3) = t.val ∧ win0_4.index t (1 : Fin 3) = 0
    ∧ win0_4.index t (2 : Fin 3) = 0 :=
  (by decide +kernel : ∀ t : Fin grid0.N, _)

/-- An index of window 4's block is that index of the batch element's slab. -/
theorem emb_4 (x : Fin 192) (y : Fin 1) : ((cfg0.win 4).blk t).view.emb (ix3 0 x y : S1x192x1.Idx) = (ix3 (batch t) x y : S4x192x1.Idx) := by
  obtain ⟨e0, e1, e2⟩ := index_4 t
  funext a
  apply Fin.ext
  match a with
  | ⟨0, _⟩ => show win0_4.index t (0 : Fin 3) * 1 + 1 * 0 = t.val; omega
  | ⟨1, _⟩ => show win0_4.index t (1 : Fin 3) * 192 + 1 * x.val = x.val; omega
  | ⟨2, _⟩ => show win0_4.index t (2 : Fin 3) * 1 + 1 * y.val = y.val; omega

/-- Window 4's block at a grid point, at an index. -/
theorem blk_4 (x : Fin 192) (y : Fin 1) :
    iblk m c 4 t (ix3 0 x y : S1x192x1.Idx) = V m c main_v14 (ix3 (batch t) x y : S4x192x1.Idx) := by
  unfold iblk
  rw [View.read_apply, emb_4]
  rfl

/-- Window 5's block index at a grid point: the batch element's. -/
theorem index_5 : ∀ t : Fin cfg0.N, win0_5.index t (0 : Fin 3) = t.val ∧ win0_5.index t (1 : Fin 3) = 0
    ∧ win0_5.index t (2 : Fin 3) = 0 :=
  (by decide +kernel : ∀ t : Fin grid0.N, _)

/-- An index of window 5's block is that index of the batch element's slab. -/
theorem emb_5 (x : Fin 192) (y : Fin 1) : ((cfg0.win 5).blk t).view.emb (ix3 0 x y : S1x192x1.Idx) = (ix3 (batch t) x y : S4x192x1.Idx) := by
  obtain ⟨e0, e1, e2⟩ := index_5 t
  funext a
  apply Fin.ext
  match a with
  | ⟨0, _⟩ => show win0_5.index t (0 : Fin 3) * 1 + 1 * 0 = t.val; omega
  | ⟨1, _⟩ => show win0_5.index t (1 : Fin 3) * 192 + 1 * x.val = x.val; omega
  | ⟨2, _⟩ => show win0_5.index t (2 : Fin 3) * 1 + 1 * y.val = y.val; omega

/-- Window 5's block at a grid point, at an index. -/
theorem blk_5 (x : Fin 192) (y : Fin 1) :
    iblk m c 5 t (ix3 0 x y : S1x192x1.Idx) = V m c main_v15 (ix3 (batch t) x y : S4x192x1.Idx) := by
  unfold iblk
  rw [View.read_apply, emb_5]
  rfl

/-- Window 6's block index at a grid point: the batch element's. -/
theorem index_6 : ∀ t : Fin cfg0.N, win0_6.index t (0 : Fin 3) = t.val ∧ win0_6.index t (1 : Fin 3) = 0
    ∧ win0_6.index t (2 : Fin 3) = 0 :=
  (by decide +kernel : ∀ t : Fin grid0.N, _)

/-- An index of window 6's block is that index of the batch element's slab. -/
theorem emb_6 (x : Fin 1) (y : Fin 192) : ((cfg0.win 6).blk t).view.emb (ix3 0 x y : S1x1x192.Idx) = (ix3 (batch t) x y : S4x1x192.Idx) := by
  obtain ⟨e0, e1, e2⟩ := index_6 t
  funext a
  apply Fin.ext
  match a with
  | ⟨0, _⟩ => show win0_6.index t (0 : Fin 3) * 1 + 1 * 0 = t.val; omega
  | ⟨1, _⟩ => show win0_6.index t (1 : Fin 3) * 1 + 1 * x.val = x.val; omega
  | ⟨2, _⟩ => show win0_6.index t (2 : Fin 3) * 192 + 1 * y.val = y.val; omega

/-- Window 6's block at a grid point, at an index. -/
theorem blk_6 (x : Fin 1) (y : Fin 192) :
    iblk m c 6 t (ix3 0 x y : S1x1x192.Idx) = V m c main_v16 (ix3 (batch t) x y : S4x1x192.Idx) := by
  unfold iblk
  rw [View.read_apply, emb_6]
  rfl

/-- Window 7's block index at a grid point: the batch element's. -/
theorem index_7 : ∀ t : Fin cfg0.N, win0_7.index t (0 : Fin 3) = t.val ∧ win0_7.index t (1 : Fin 3) = 0
    ∧ win0_7.index t (2 : Fin 3) = 0 :=
  (by decide +kernel : ∀ t : Fin grid0.N, _)

/-- An index of window 7's block is that index of the batch element's slab. -/
theorem emb_7 (x : Fin 128) (y : Fin 8) : ((cfg0.win 7).blk t).view.emb (ix3 0 x y : S1x128x8.Idx) = (ix3 (batch t) x y : S4x128x8.Idx) := by
  obtain ⟨e0, e1, e2⟩ := index_7 t
  funext a
  apply Fin.ext
  match a with
  | ⟨0, _⟩ => show win0_7.index t (0 : Fin 3) * 1 + 1 * 0 = t.val; omega
  | ⟨1, _⟩ => show win0_7.index t (1 : Fin 3) * 128 + 1 * x.val = x.val; omega
  | ⟨2, _⟩ => show win0_7.index t (2 : Fin 3) * 8 + 1 * y.val = y.val; omega

/-- Window 7's block at a grid point, at an index. -/
theorem blk_7 (x : Fin 128) (y : Fin 8) :
    iblk m c 7 t (ix3 0 x y : S1x128x8.Idx) = V m c main_v21 (ix3 (batch t) x y : S4x128x8.Idx) := by
  unfold iblk
  rw [View.read_apply, emb_7]
  rfl

/-- Window 19's block index at a grid point: the batch element's. -/
theorem index_19 : ∀ t : Fin cfg0.N, win0_19.index t (0 : Fin 3) = t.val ∧ win0_19.index t (1 : Fin 3) = 0
    ∧ win0_19.index t (2 : Fin 3) = 0 :=
  (by decide +kernel : ∀ t : Fin grid0.N, _)

/-- An index of window 19's block is that index of the batch element's slab. -/
theorem emb_19 (x : Fin 128) (y : Fin 128) : ((cfg0.win 19).blk t).view.emb (ix3 0 x y : S1x128x128.Idx) = (ix3 (batch t) x y : S4x128x128.Idx) := by
  obtain ⟨e0, e1, e2⟩ := index_19 t
  funext a
  apply Fin.ext
  match a with
  | ⟨0, _⟩ => show win0_19.index t (0 : Fin 3) * 1 + 1 * 0 = t.val; omega
  | ⟨1, _⟩ => show win0_19.index t (1 : Fin 3) * 128 + 1 * x.val = x.val; omega
  | ⟨2, _⟩ => show win0_19.index t (2 : Fin 3) * 128 + 1 * y.val = y.val; omega

/-- Window 8's block index is zero. -/
theorem index_8 : ∀ t : Fin cfg0.N, win0_8.index t (0 : Fin 2) = 0 ∧ win0_8.index t (1 : Fin 2) = 0 :=
  (by decide +kernel : ∀ t : Fin grid0.N, _)

/-- Window 8's block is its array. -/
theorem emb_8 (x : Fin 1) (y : Fin 128) : ((cfg0.win 8).blk t).view.emb (ix2 x y : S1x128.Idx) = (ix2 x y : S1x128.Idx) := by
  obtain ⟨e0, e1⟩ := index_8 t
  funext a
  apply Fin.ext
  match a with
  | ⟨0, _⟩ => show win0_8.index t (0 : Fin 2) * 1 + 1 * x.val = x.val; omega
  | ⟨1, _⟩ => show win0_8.index t (1 : Fin 2) * 128 + 1 * y.val = y.val; omega

/-- Window 8's block at a grid point, at an index. -/
theorem blk_8 (x : Fin 1) (y : Fin 128) : iblk m c 8 t (ix2 x y : S1x128.Idx) = V m c main_v37 (ix2 x y : S1x128.Idx) := by
  unfold iblk
  rw [View.read_apply, emb_8]
  rfl

/-- Window 9's block index is zero. -/
theorem index_9 : ∀ t : Fin cfg0.N, win0_9.index t (0 : Fin 3) = 0 ∧ win0_9.index t (1 : Fin 3) = 0
    ∧ win0_9.index t (2 : Fin 3) = 0 :=
  (by decide +kernel : ∀ t : Fin grid0.N, _)

/-- Window 9's block is its array. -/
theorem emb_9 (l : Fin 2) (x : Fin 128) (y : Fin 128) :
    ((cfg0.win 9).blk t).view.emb (ix3 l x y : S2x128x128.Idx) = (ix3 l x y : S2x128x128.Idx) := by
  obtain ⟨e0, e1, e2⟩ := index_9 t
  funext a
  apply Fin.ext
  match a with
  | ⟨0, _⟩ => show win0_9.index t (0 : Fin 3) * 2 + 1 * l.val = l.val; omega
  | ⟨1, _⟩ => show win0_9.index t (1 : Fin 3) * 128 + 1 * x.val = x.val; omega
  | ⟨2, _⟩ => show win0_9.index t (2 : Fin 3) * 128 + 1 * y.val = y.val; omega

/-- Window 9's block at a grid point, at an index. -/
theorem blk_9 (l : Fin 2) (x : Fin 128) (y : Fin 128) : iblk m c 9 t (ix3 l x y : S2x128x128.Idx) = V m c main_arg10 (ix3 l x y : S2x128x128.Idx) := by
  unfold iblk
  rw [View.read_apply, emb_9]
  rfl

/-- Window 10's block index is zero. -/
theorem index_10 : ∀ t : Fin cfg0.N, win0_10.index t (0 : Fin 3) = 0 ∧ win0_10.index t (1 : Fin 3) = 0
    ∧ win0_10.index t (2 : Fin 3) = 0 :=
  (by decide +kernel : ∀ t : Fin grid0.N, _)

/-- Window 10's block is its array. -/
theorem emb_10 (l : Fin 2) (x : Fin 128) (y : Fin 128) :
    ((cfg0.win 10).blk t).view.emb (ix3 l x y : S2x128x128.Idx) = (ix3 l x y : S2x128x128.Idx) := by
  obtain ⟨e0, e1, e2⟩ := index_10 t
  funext a
  apply Fin.ext
  match a with
  | ⟨0, _⟩ => show win0_10.index t (0 : Fin 3) * 2 + 1 * l.val = l.val; omega
  | ⟨1, _⟩ => show win0_10.index t (1 : Fin 3) * 128 + 1 * x.val = x.val; omega
  | ⟨2, _⟩ => show win0_10.index t (2 : Fin 3) * 128 + 1 * y.val = y.val; omega

/-- Window 10's block at a grid point, at an index. -/
theorem blk_10 (l : Fin 2) (x : Fin 128) (y : Fin 128) : iblk m c 10 t (ix3 l x y : S2x128x128.Idx) = V m c main_arg11 (ix3 l x y : S2x128x128.Idx) := by
  unfold iblk
  rw [View.read_apply, emb_10]
  rfl

/-- Window 11's block index is zero. -/
theorem index_11 : ∀ t : Fin cfg0.N, win0_11.index t (0 : Fin 3) = 0 ∧ win0_11.index t (1 : Fin 3) = 0
    ∧ win0_11.index t (2 : Fin 3) = 0 :=
  (by decide +kernel : ∀ t : Fin grid0.N, _)

/-- Window 11's block is its array. -/
theorem emb_11 (l : Fin 2) (x : Fin 128) (y : Fin 128) :
    ((cfg0.win 11).blk t).view.emb (ix3 l x y : S2x128x128.Idx) = (ix3 l x y : S2x128x128.Idx) := by
  obtain ⟨e0, e1, e2⟩ := index_11 t
  funext a
  apply Fin.ext
  match a with
  | ⟨0, _⟩ => show win0_11.index t (0 : Fin 3) * 2 + 1 * l.val = l.val; omega
  | ⟨1, _⟩ => show win0_11.index t (1 : Fin 3) * 128 + 1 * x.val = x.val; omega
  | ⟨2, _⟩ => show win0_11.index t (2 : Fin 3) * 128 + 1 * y.val = y.val; omega

/-- Window 11's block at a grid point, at an index. -/
theorem blk_11 (l : Fin 2) (x : Fin 128) (y : Fin 128) : iblk m c 11 t (ix3 l x y : S2x128x128.Idx) = V m c main_arg12 (ix3 l x y : S2x128x128.Idx) := by
  unfold iblk
  rw [View.read_apply, emb_11]
  rfl

/-- Window 12's block index is zero. -/
theorem index_12 : ∀ t : Fin cfg0.N, win0_12.index t (0 : Fin 3) = 0 ∧ win0_12.index t (1 : Fin 3) = 0
    ∧ win0_12.index t (2 : Fin 3) = 0 :=
  (by decide +kernel : ∀ t : Fin grid0.N, _)

/-- Window 12's block is its array. -/
theorem emb_12 (l : Fin 2) (x : Fin 128) (y : Fin 128) :
    ((cfg0.win 12).blk t).view.emb (ix3 l x y : S2x128x128.Idx) = (ix3 l x y : S2x128x128.Idx) := by
  obtain ⟨e0, e1, e2⟩ := index_12 t
  funext a
  apply Fin.ext
  match a with
  | ⟨0, _⟩ => show win0_12.index t (0 : Fin 3) * 2 + 1 * l.val = l.val; omega
  | ⟨1, _⟩ => show win0_12.index t (1 : Fin 3) * 128 + 1 * x.val = x.val; omega
  | ⟨2, _⟩ => show win0_12.index t (2 : Fin 3) * 128 + 1 * y.val = y.val; omega

/-- Window 12's block at a grid point, at an index. -/
theorem blk_12 (l : Fin 2) (x : Fin 128) (y : Fin 128) : iblk m c 12 t (ix3 l x y : S2x128x128.Idx) = V m c main_arg13 (ix3 l x y : S2x128x128.Idx) := by
  unfold iblk
  rw [View.read_apply, emb_12]
  rfl

/-- Window 13's block index is zero. -/
theorem index_13 : ∀ t : Fin cfg0.N, win0_13.index t (0 : Fin 3) = 0 ∧ win0_13.index t (1 : Fin 3) = 0
    ∧ win0_13.index t (2 : Fin 3) = 0 :=
  (by decide +kernel : ∀ t : Fin grid0.N, _)

/-- Window 13's block is its array. -/
theorem emb_13 (l : Fin 2) (x : Fin 128) (y : Fin 128) :
    ((cfg0.win 13).blk t).view.emb (ix3 l x y : S2x128x128.Idx) = (ix3 l x y : S2x128x128.Idx) := by
  obtain ⟨e0, e1, e2⟩ := index_13 t
  funext a
  apply Fin.ext
  match a with
  | ⟨0, _⟩ => show win0_13.index t (0 : Fin 3) * 2 + 1 * l.val = l.val; omega
  | ⟨1, _⟩ => show win0_13.index t (1 : Fin 3) * 128 + 1 * x.val = x.val; omega
  | ⟨2, _⟩ => show win0_13.index t (2 : Fin 3) * 128 + 1 * y.val = y.val; omega

/-- Window 13's block at a grid point, at an index. -/
theorem blk_13 (l : Fin 2) (x : Fin 128) (y : Fin 128) : iblk m c 13 t (ix3 l x y : S2x128x128.Idx) = V m c main_arg14 (ix3 l x y : S2x128x128.Idx) := by
  unfold iblk
  rw [View.read_apply, emb_13]
  rfl

/-- Window 14's block index is zero. -/
theorem index_14 : ∀ t : Fin cfg0.N, win0_14.index t (0 : Fin 3) = 0 ∧ win0_14.index t (1 : Fin 3) = 0
    ∧ win0_14.index t (2 : Fin 3) = 0 :=
  (by decide +kernel : ∀ t : Fin grid0.N, _)

/-- Window 14's block is its array. -/
theorem emb_14 (l : Fin 2) (x : Fin 128) (y : Fin 128) :
    ((cfg0.win 14).blk t).view.emb (ix3 l x y : S2x128x128.Idx) = (ix3 l x y : S2x128x128.Idx) := by
  obtain ⟨e0, e1, e2⟩ := index_14 t
  funext a
  apply Fin.ext
  match a with
  | ⟨0, _⟩ => show win0_14.index t (0 : Fin 3) * 2 + 1 * l.val = l.val; omega
  | ⟨1, _⟩ => show win0_14.index t (1 : Fin 3) * 128 + 1 * x.val = x.val; omega
  | ⟨2, _⟩ => show win0_14.index t (2 : Fin 3) * 128 + 1 * y.val = y.val; omega

/-- Window 14's block at a grid point, at an index. -/
theorem blk_14 (l : Fin 2) (x : Fin 128) (y : Fin 128) : iblk m c 14 t (ix3 l x y : S2x128x128.Idx) = V m c main_arg15 (ix3 l x y : S2x128x128.Idx) := by
  unfold iblk
  rw [View.read_apply, emb_14]
  rfl

/-- Window 15's block index is zero. -/
theorem index_15 : ∀ t : Fin cfg0.N, win0_15.index t (0 : Fin 3) = 0 ∧ win0_15.index t (1 : Fin 3) = 0
    ∧ win0_15.index t (2 : Fin 3) = 0 :=
  (by decide +kernel : ∀ t : Fin grid0.N, _)

/-- Window 15's block is its array. -/
theorem emb_15 (l : Fin 2) (x : Fin 128) (y : Fin 256) :
    ((cfg0.win 15).blk t).view.emb (ix3 l x y : S2x128x256.Idx) = (ix3 l x y : S2x128x256.Idx) := by
  obtain ⟨e0, e1, e2⟩ := index_15 t
  funext a
  apply Fin.ext
  match a with
  | ⟨0, _⟩ => show win0_15.index t (0 : Fin 3) * 2 + 1 * l.val = l.val; omega
  | ⟨1, _⟩ => show win0_15.index t (1 : Fin 3) * 128 + 1 * x.val = x.val; omega
  | ⟨2, _⟩ => show win0_15.index t (2 : Fin 3) * 256 + 1 * y.val = y.val; omega

/-- Window 15's block at a grid point, at an index. -/
theorem blk_15 (l : Fin 2) (x : Fin 128) (y : Fin 256) : iblk m c 15 t (ix3 l x y : S2x128x256.Idx) = V m c main_arg16 (ix3 l x y : S2x128x256.Idx) := by
  unfold iblk
  rw [View.read_apply, emb_15]
  rfl

/-- Window 16's block index is zero. -/
theorem index_16 : ∀ t : Fin cfg0.N, win0_16.index t (0 : Fin 3) = 0 ∧ win0_16.index t (1 : Fin 3) = 0
    ∧ win0_16.index t (2 : Fin 3) = 0 :=
  (by decide +kernel : ∀ t : Fin grid0.N, _)

/-- Window 16's block is its array. -/
theorem emb_16 (l : Fin 2) (x : Fin 1) (y : Fin 256) :
    ((cfg0.win 16).blk t).view.emb (ix3 l x y : S2x1x256.Idx) = (ix3 l x y : S2x1x256.Idx) := by
  obtain ⟨e0, e1, e2⟩ := index_16 t
  funext a
  apply Fin.ext
  match a with
  | ⟨0, _⟩ => show win0_16.index t (0 : Fin 3) * 2 + 1 * l.val = l.val; omega
  | ⟨1, _⟩ => show win0_16.index t (1 : Fin 3) * 1 + 1 * x.val = x.val; omega
  | ⟨2, _⟩ => show win0_16.index t (2 : Fin 3) * 256 + 1 * y.val = y.val; omega

/-- Window 16's block at a grid point, at an index. -/
theorem blk_16 (l : Fin 2) (x : Fin 1) (y : Fin 256) : iblk m c 16 t (ix3 l x y : S2x1x256.Idx) = V m c main_v38 (ix3 l x y : S2x1x256.Idx) := by
  unfold iblk
  rw [View.read_apply, emb_16]
  rfl

/-- Window 17's block index is zero. -/
theorem index_17 : ∀ t : Fin cfg0.N, win0_17.index t (0 : Fin 3) = 0 ∧ win0_17.index t (1 : Fin 3) = 0
    ∧ win0_17.index t (2 : Fin 3) = 0 :=
  (by decide +kernel : ∀ t : Fin grid0.N, _)

/-- Window 17's block is its array. -/
theorem emb_17 (l : Fin 2) (x : Fin 256) (y : Fin 128) :
    ((cfg0.win 17).blk t).view.emb (ix3 l x y : S2x256x128.Idx) = (ix3 l x y : S2x256x128.Idx) := by
  obtain ⟨e0, e1, e2⟩ := index_17 t
  funext a
  apply Fin.ext
  match a with
  | ⟨0, _⟩ => show win0_17.index t (0 : Fin 3) * 2 + 1 * l.val = l.val; omega
  | ⟨1, _⟩ => show win0_17.index t (1 : Fin 3) * 256 + 1 * x.val = x.val; omega
  | ⟨2, _⟩ => show win0_17.index t (2 : Fin 3) * 128 + 1 * y.val = y.val; omega

/-- Window 17's block at a grid point, at an index. -/
theorem blk_17 (l : Fin 2) (x : Fin 256) (y : Fin 128) : iblk m c 17 t (ix3 l x y : S2x256x128.Idx) = V m c main_arg18 (ix3 l x y : S2x256x128.Idx) := by
  unfold iblk
  rw [View.read_apply, emb_17]
  rfl

/-- Window 18's block index is zero. -/
theorem index_18 : ∀ t : Fin cfg0.N, win0_18.index t (0 : Fin 3) = 0 ∧ win0_18.index t (1 : Fin 3) = 0
    ∧ win0_18.index t (2 : Fin 3) = 0 :=
  (by decide +kernel : ∀ t : Fin grid0.N, _)

/-- Window 18's block is its array. -/
theorem emb_18 (l : Fin 2) (x : Fin 1) (y : Fin 128) :
    ((cfg0.win 18).blk t).view.emb (ix3 l x y : S2x1x128.Idx) = (ix3 l x y : S2x1x128.Idx) := by
  obtain ⟨e0, e1, e2⟩ := index_18 t
  funext a
  apply Fin.ext
  match a with
  | ⟨0, _⟩ => show win0_18.index t (0 : Fin 3) * 2 + 1 * l.val = l.val; omega
  | ⟨1, _⟩ => show win0_18.index t (1 : Fin 3) * 1 + 1 * x.val = x.val; omega
  | ⟨2, _⟩ => show win0_18.index t (2 : Fin 3) * 128 + 1 * y.val = y.val; omega

/-- Window 18's block at a grid point, at an index. -/
theorem blk_18 (l : Fin 2) (x : Fin 1) (y : Fin 128) : iblk m c 18 t (ix3 l x y : S2x1x128.Idx) = V m c main_v39 (ix3 l x y : S2x1x128.Idx) := by
  unfold iblk
  rw [View.read_apply, emb_18]
  rfl

end Cert.Proof.Blocks

end
-- ==== Proof.KerHost.lean ====
/-
  The arrays the region reads, as the host operations before it leave them, at an index.
-/
module

public import proofs.«01_k».proof.Proof.Gen.KernelIdeal.Value
public import proofs.«01_k».proof.Proof.Model
public import Idealize.ShloMosaic.Lib.Pointwise

@[expose] public section

noncomputable section

namespace Cert.Proof.KerHost

open Idealize.ShloMosaic Cert.KernelIdeal Cert.KernelIdeal.Gen Idealize.ShloMosaic.TcCoe
open scoped BigOperators Classical

/-- The goals' indices. -/
def goals (a4 : IVec S4x64x1 32) : IVec S4x64 32 := shapeCast S4x64 a4 shapeCasts_S4x64x1_S4x64

/-- The routes' sources. -/
def sources (a7 : IVec S4x64x2 32) : IVec S4x64 32 :=
  shapeCast S4x64 (extractStridedSlice S4x64x1 ![0, 0, 0] a7 slices_S4x64x2_S4x64x1_0_0_0) shapeCasts_S4x64x1_S4x64

/-- The routes' targets. -/
def targets (a7 : IVec S4x64x2 32) : IVec S4x64 32 :=
  shapeCast S4x64 (extractStridedSlice S4x64x1 ![0, 0, 1] a7 slices_S4x64x2_S4x64x1_0_0_1) shapeCasts_S4x64x1_S4x64

/-- Three lists of indices joined. -/
def joined (a b c : IVec S4x64 32) : IVec S4x192 32 :=
  concatenate S4x192 1 [⟨S4x64, a⟩, ⟨S4x64, b⟩, ⟨S4x64, c⟩] concatenates_S4x64_S4x64_S4x64_S4x192_d1

/-- The edges' ends as a column of floats. -/
def endCol (a : IVec S4x192 32) : FVec Ideal S4x192x1 .f32 :=
  broadcastInDim S4x192x1 ![0, 1] bcast_S4x192_S4x192x1_0_1 (sitofp .f32 a)

/-- The edges' keys as floats. -/
def keys (a b : IVec S4x192 32) : FVec Ideal S4x192 .f32 :=
  sitofp .f32 (addi (muli a (broadcastInDim S4x192 ![] bcast_S_S4x192 (constantI S_ 32 128#32))) b)

/-- The keys as a column. -/
def keyCol (a b : IVec S4x192 32) : FVec Ideal S4x192x1 .f32 :=
  broadcastInDim S4x192x1 ![0, 1] bcast_S4x192_S4x192x1_0_1 (keys a b)

/-- The keys as a row. -/
def keyRow (a b : IVec S4x192 32) : FVec Ideal S4x1x192 .f32 :=
  broadcastInDim S4x1x192 ![0, 2] bcast_S4x192_S4x1x192_0_2 (keys a b)

/-- The edges' attributes. -/
def attrs (a2 : FVec Ideal S4x64x128 .f32) (a5 : FVec Ideal S4x64x256 .f32) : FVec Ideal S4x192x128 .f32 :=
  concatenate S4x192x128 1 [⟨S4x64x128, a2⟩,
    ⟨S4x64x128, extractStridedSlice S4x64x128 ![0, 0, 0] a5 slices_S4x64x256_S4x64x128_0_0_0⟩,
    ⟨S4x64x128, extractStridedSlice S4x64x128 ![0, 0, 128] a5 slices_S4x64x256_S4x64x128_0_0_128⟩]
    concatenates_S4x64x128_S4x64x128_S4x64x128_S4x192x128_d1

/-- Positions and headings in one array. -/
def poses (a8 : FVec Ideal S4x128x2 .f32) (a9 : FVec Ideal S4x128x1 .f32) : FVec Ideal S4x128x8 .f32 :=
  concatenate S4x128x8 2 [⟨S4x128x2, a8⟩, ⟨S4x128x1, a9⟩,
    ⟨S4x128x5, broadcastInDim S4x128x5 ![] bcast_S_S4x128x5 (constant S_ .f32 0x00000000#32)⟩]
    concatenates_S4x128x2_S4x128x1_S4x128x5_S4x128x8_d2

/-- The prompt's mask as a column of floats. -/
def maskCol (a1 : IVec S4x128 1) : FVec Ideal S4x128x1 .f32 :=
  broadcastInDim S4x128x1 ![0, 1] bcast_S4x128_S4x128x1_0_1 (uitofp .f32 a1)

/-- The frequencies. -/
def freqs : FVec Ideal S16 .f32 :=
  Host.powf (broadcastInDim S16 ![] bcast_S_S16 (constant S_ .f32 0x461C4000#32))
    (Host.divf (mulf (broadcastInDim S16 ![] bcast_S_S16 (constant S_ .f32 0x40000000#32)) (sitofp .f32 (iotaInDim S16 32 0)))
      (broadcastInDim S16 ![] bcast_S_S16 (constant S_ .f32 0x42000000#32)))

/-- The frequencies of the lanes. -/
def freqRow : FVec Ideal S1x128 .f32 :=
  broadcastInDim S1x128 ![1] bcast_S128_S1x128_1
    (shapeCast S128 (broadcastInDim S4x32 ![0, 1] bcast_S1x32_S4x32_0_1
      (shapeCast S1x32 (concatenate S32 0 [⟨S16, freqs⟩, ⟨S16, freqs⟩] concatenates_S16_S16_S32_d0) shapeCasts_S32_S1x32))
      shapeCasts_S4x32_S128)

/-- The first bias. -/
def bias1 (a : FVec Ideal S2x256 .f32) : FVec Ideal S2x1x256 .f32 := broadcastInDim S2x1x256 ![0, 2] bcast_S2x256_S2x1x256_0_2 a

/-- The second bias. -/
def bias2 (a : FVec Ideal S2x128 .f32) : FVec Ideal S2x1x128 .f32 := broadcastInDim S2x1x128 ![0, 2] bcast_S2x128_S2x1x128_0_2 a

section

variable (m : (ℓ : Loc nD τ sig) → Buf (Elt Ideal) ℓ) (c : Dev nD)

/-- The first ends. -/
theorem V12 : V m c main_v12 = endCol (joined (goals (m ((c : Thread nD τ).loc main_arg4)))
    (sources (m ((c : Thread nD τ).loc main_arg7))) (targets (m ((c : Thread nD τ).loc main_arg7)))) := by
  show StableHlo.after hostOps0 (fun b => m (c, b)) _ = _
  after_results
  rfl

/-- The second ends. -/
theorem V14 : V m c main_v14 = endCol (joined (goals (m ((c : Thread nD τ).loc main_arg4)))
    (targets (m ((c : Thread nD τ).loc main_arg7))) (sources (m ((c : Thread nD τ).loc main_arg7)))) := by
  show StableHlo.after hostOps0 (fun b => m (c, b)) _ = _
  after_results
  rfl

/-- The column of keys. -/
theorem V15 : V m c main_v15 = keyCol (joined (goals (m ((c : Thread nD τ).loc main_arg4)))
      (sources (m ((c : Thread nD τ).loc main_arg7))) (targets (m ((c : Thread nD τ).loc main_arg7))))
    (joined (goals (m ((c : Thread nD τ).loc main_arg4)))
      (targets (m ((c : Thread nD τ).loc main_arg7))) (sources (m ((c : Thread nD τ).loc main_arg7)))) := by
  show StableHlo.after hostOps0 (fun b => m (c, b)) _ = _
  after_results
  rfl

/-- The row of keys. -/
theorem V16 : V m c main_v16 = keyRow (joined (goals (m ((c : Thread nD τ).loc main_arg4)))
      (sources (m ((c : Thread nD τ).loc main_arg7))) (targets (m ((c : Thread nD τ).loc main_arg7))))
    (joined (goals (m ((c : Thread nD τ).loc main_arg4)))
      (targets (m ((c : Thread nD τ).loc main_arg7))) (sources (m ((c : Thread nD τ).loc main_arg7)))) := by
  show StableHlo.after hostOps0 (fun b => m (c, b)) _ = _
  after_results
  rfl

/-- The attributes. -/
theorem V19 : V m c main_v19 = attrs (m ((c : Thread nD τ).loc main_arg2)) (m ((c : Thread nD τ).loc main_arg5)) := by
  show StableHlo.after hostOps0 (fun b => m (c, b)) _ = _
  after_results
  rfl

/-- The poses. -/
theorem V21 : V m c main_v21 = poses (m ((c : Thread nD τ).loc main_arg8)) (m ((c : Thread nD τ).loc main_arg9)) := by
  show StableHlo.after hostOps0 (fun b => m (c, b)) _ = _
  after_results
  rfl

/-- The mask. -/
theorem V23 : V m c main_v23 = maskCol (m ((c : Thread nD τ).loc main_arg1)) := by
  show StableHlo.after hostOps0 (fun b => m (c, b)) _ = _
  after_results
  rfl

/-- The lanes' frequencies. -/
theorem V37 : V m c main_v37 = freqRow := by
  show StableHlo.after hostOps0 (fun b => m (c, b)) _ = _
  after_results
  rfl

/-- The first bias. -/
theorem V38 : V m c main_v38 = bias1 (m ((c : Thread nD τ).loc main_arg17)) := by
  show StableHlo.after hostOps0 (fun b => m (c, b)) _ = _
  after_results
  rfl

/-- The second bias. -/
theorem V39 : V m c main_v39 = bias2 (m ((c : Thread nD τ).loc main_arg19)) := by
  show StableHlo.after hostOps0 (fun b => m (c, b)) _ = _
  after_results
  rfl

end

/-- The goals' indices, at an index. -/
theorem goals_apply (a4 : IVec S4x64x1 32) (b : Fin 4) (e : Fin 64) : goals a4 (ix2 b e) = a4 (ix3 b e 0) := by
  pointwise [goals]

/-- The routes' sources, at an index. -/
theorem sources_apply (a7 : IVec S4x64x2 32) (b : Fin 4) (e : Fin 64) : sources a7 (ix2 b e) = a7 (ix3 b e 0) := by
  pointwise [sources]

/-- The routes' targets, at an index. -/
theorem targets_apply (a7 : IVec S4x64x2 32) (b : Fin 4) (e : Fin 64) : targets a7 (ix2 b e) = a7 (ix3 b e 1) := by
  pointwise [targets]

/-- Three lists joined, at an index. -/
theorem joined_apply (x y z : IVec S4x64 32) (b : Fin 4) (e : Fin 192) :
    joined x y z (ix2 b e) = Spec.joined (fun k => x (ix2 b k)) (fun k => y (ix2 b k)) (fun k => z (ix2 b k)) e := by
  pointwise [joined]
  rfl

/-- The first ends' words, at an index. -/
theorem first_apply (a4 : IVec S4x64x1 32) (a7 : IVec S4x64x2 32) (b : Fin 4) (e : Fin 192) :
    joined (goals a4) (sources a7) (targets a7) (ix2 b e)
      = Spec.joined (fun k => a4 (ix3 b k 0)) (fun k => a7 (ix3 b k 0)) (fun k => a7 (ix3 b k 1)) e := by
  rw [joined_apply]
  simp only [goals_apply, sources_apply, targets_apply]

/-- The second ends' words, at an index. -/
theorem second_apply (a4 : IVec S4x64x1 32) (a7 : IVec S4x64x2 32) (b : Fin 4) (e : Fin 192) :
    joined (goals a4) (targets a7) (sources a7) (ix2 b e)
      = Spec.joined (fun k => a4 (ix3 b k 0)) (fun k => a7 (ix3 b k 1)) (fun k => a7 (ix3 b k 0)) e := by
  rw [joined_apply]
  simp only [goals_apply, sources_apply, targets_apply]

/-- The ends as floats, at an index. -/
theorem endCol_apply (a : IVec S4x192 32) (b : Fin 4) (e : Fin 192) :
    endCol a (ix3 b e 0) = FloatOps.sitofp .f32 (a (ix2 b e)) := by
  pointwise [endCol]

/-- The column of keys, at an index. -/
theorem keyCol_apply (x y : IVec S4x192 32) (b : Fin 4) (e : Fin 192) :
    keyCol x y (ix3 b e 0) = FloatOps.sitofp .f32 (IntOp.addi (IntOp.muli (x (ix2 b e)) 128#32) (y (ix2 b e))) := by
  pointwise [keyCol, keys]

/-- The row of keys, at an index. -/
theorem keyRow_apply (x y : IVec S4x192 32) (b : Fin 4) (e : Fin 192) :
    keyRow x y (ix3 b 0 e) = FloatOps.sitofp .f32 (IntOp.addi (IntOp.muli (x (ix2 b e)) 128#32) (y (ix2 b e))) := by
  pointwise [keyRow, keys]

/-- The attributes, at an index. -/
theorem attrs_apply (a2 : FVec Ideal S4x64x128 .f32) (a5 : FVec Ideal S4x64x256 .f32) (b : Fin 4) (e : Fin 192)
    (d : Fin 128) :
    attrs a2 a5 (ix3 b e d) = Spec.joined (fun k => a2 (ix3 b k d)) (fun k => a5 (ix3 b k ⟨d.val, by omega⟩))
      (fun k => a5 (ix3 b k ⟨128 + d.val, by omega⟩)) e := by
  pointwise [attrs]
  rfl

/-- The first coordinates, at an index. -/
theorem poses_x (a8 : FVec Ideal S4x128x2 .f32) (a9 : FVec Ideal S4x128x1 .f32) (b : Fin 4) (i : Fin 128) :
    poses a8 a9 (ix3 b i 0) = a8 (ix3 b i 0) := by
  pointwise [poses]

/-- The second coordinates, at an index. -/
theorem poses_y (a8 : FVec Ideal S4x128x2 .f32) (a9 : FVec Ideal S4x128x1 .f32) (b : Fin 4) (i : Fin 128) :
    poses a8 a9 (ix3 b i 1) = a8 (ix3 b i 1) := by
  pointwise [poses]

/-- The headings, at an index. -/
theorem poses_h (a8 : FVec Ideal S4x128x2 .f32) (a9 : FVec Ideal S4x128x1 .f32) (b : Fin 4) (i : Fin 128) :
    poses a8 a9 (ix3 b i 2) = a9 (ix3 b i 0) := by
  pointwise [poses]

/-- The mask, at an index. -/
theorem maskCol_apply (a1 : IVec S4x128 1) (b : Fin 4) (i : Fin 128) :
    maskCol a1 (ix3 b i 0) = if a1 (ix2 b i) = 1#1 then 1 else 0 := by
  pointwise [maskCol]
  rcases (by decide : ∀ w : BitVec 1, w = 0#1 ∨ w = 1#1) (a1 (ix2 b i)) with h | h <;> rw [h]
  · rw [if_neg (by decide)]
    show (((0#1 : BitVec 1).toNat : ℝ) : EReal) = 0
    norm_num
  · rw [if_pos rfl]
    show (((1#1 : BitVec 1).toNat : ℝ) : EReal) = 1
    norm_num

/-- The frequencies, at an index. -/
theorem freqs_apply (k : Fin 16) : freqs (ix1 k) = Spec.freq k := by
  pointwise [freqs]
  rfl

/-- The lanes' frequencies, at an index. -/
theorem freqRow_apply (d : Fin 128) : freqRow (ix2 0 d) = Spec.freq (Spec.Agents.slotIn d) := by
  have h := freqs_apply
  unfold freqRow
  generalize freqs = v at h ⊢
  pointwise
  simp only [h]
  unfold Spec.Agents.slotIn
  split
  · congr 2; omega
  · congr 2; omega

/-- The first bias, at an index. -/
theorem bias1_apply (a : FVec Ideal S2x256 .f32) (l : Fin 2) (b : Fin 256) : bias1 a (ix3 l 0 b) = a (ix2 l b) := by
  pointwise [bias1]

/-- The second bias, at an index. -/
theorem bias2_apply (a : FVec Ideal S2x128 .f32) (l : Fin 2) (b : Fin 128) : bias2 a (ix3 l 0 b) = a (ix2 l b) := by
  pointwise [bias2]

end Cert.Proof.KerHost

end
-- ==== Proof.KerValue.lean ====
/-
  The kernel's result array, at an index: the batch element's answer.
-/
module

public import proofs.«01_k».proof.Proof.Body
public import proofs.«01_k».proof.Proof.Blocks
public import proofs.«01_k».proof.Proof.KerHost

@[expose] public section

noncomputable section

namespace Cert.Proof.KerValue

open Idealize.ShloMosaic Cert.KernelIdeal Cert.KernelIdeal.Gen Cert.KernelIdeal.Value Cert.Proof.Spec Cert.Proof.Blocks
open Cert.Proof.KerHost Idealize.ShloMosaic.TcCoe
open scoped BigOperators Classical

variable (m : (ℓ : Loc nD τ sig) → Buf (Elt Ideal) ℓ) (c : Dev nD)

/-- What the launch memory brings for a batch element. -/
def elem (b : Fin 4) : Element :=
  element (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg7)) (m ((c : Thread nD τ).loc main_arg8)) (m ((c : Thread nD τ).loc main_arg9)) b

/-- The layers' weights in the launch memory. -/
def weights : Fin 2 → Layer :=
  layers (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))

/-- Every point writes its block back. -/
theorem flushes : ∀ t : Fin cfg0.N, (cfg0.win 19).flush t = true :=
  (by decide +kernel : ∀ t : Fin grid0.N, win0_19.flush t = true)

/-- Blending by a mask of ones and zeros chooses. -/
theorem blend (p : Prop) [Decidable p] (x y : EReal) :
    x * (if p then (1 : EReal) else 0) + y * (1 - (if p then (1 : EReal) else 0)) = if p then x else y := by
  have h : (1 : EReal) - 1 = 0 := by
    rw [show (1 : EReal) = ((1 : ℝ) : EReal) from rfl, ← EReal.coe_sub, sub_self]; rfl
  by_cases hp : p
  · simp only [hp, if_true, h, mul_one, mul_zero, add_zero]
  · simp only [hp, if_false, mul_zero, sub_zero, mul_one, zero_add]

/-- The output window moves its whole block: nothing of it is cut off. -/
theorem cut_19 (t : Fin cfg0.N) (v : FVec Ideal S1x128x128 .f32) (h) (i d : Fin 128) :
    cast h ((cfg0.win 19).cut (grid0.coords t) v (ix3 0 i d : S1x128x128.Idx)) = v (ix3 0 i d) := rfl

/-- The result array, at an index. -/
theorem value (hin : ∀ b, (elem m c b).InRange) (t : Fin cfg0.N) (i d : Fin 128) :
    (dats m 0 c).arrAt 19 cfg0.N (ix3 (batch t) i d : S4x128x128.Idx) = (elem m c (batch t)).result (weights m c) i d := by
  have h := (dats m 0 c).arrAt_emb_eq_flushed 19 disjoint19 t (flushes t) (ix3 0 i d : S1x128x128.Idx)
  rw [emb_19, flushed19] at h
  rw [h]
  have hf := fun e => first_apply (m ((c : Thread nD τ).loc main_arg4)) (m ((c : Thread nD τ).loc main_arg7)) (batch t) e
  have hs := fun e => second_apply (m ((c : Thread nD τ).loc main_arg4)) (m ((c : Thread nD τ).loc main_arg7)) (batch t) e
  have ho := Body.out_apply (I := (elem m c (batch t)).I) (J := (elem m c (batch t)).J) (A := (elem m c (batch t)).agents)
    (freq := freq) (W := weights m c) (X := (elem m c (batch t)).X) (f := (elem m c (batch t)).attr)
    (mk := fun i => if (elem m c (batch t)).mask i = 1#1 then 1 else 0)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    (fun i d => by rw [blk_0, V_main_arg0]; rfl) (fun i => by rw [blk_1, V23]; exact maskCol_apply _ _ _)
    (fun e d => by rw [blk_2, V19]; exact attrs_apply _ _ _ _ _)
    (fun e => by
      rw [blk_3, V12]
      refine (endCol_apply _ _ _).trans ?_
      rw [hf]
      exact agent_float (Element.first_lt (hin (batch t)) e))
    (fun e => by
      rw [blk_4, V14]
      refine (endCol_apply _ _ _).trans ?_
      rw [hs]
      exact agent_float (Element.second_lt (hin (batch t)) e))
    (fun e x => by
      rw [blk_5, V15, blk_6, V16]
      refine (iff_of_eq (congrArg₂ Eq ((keyCol_apply _ _ _ _).trans ?_) ((keyRow_apply _ _ _ _).trans ?_))).trans
        (key_iff (Element.first_lt (hin (batch t)) e) (Element.second_lt (hin (batch t)) e)
          (Element.first_lt (hin (batch t)) x) (Element.second_lt (hin (batch t)) x))
      · rw [hf, hs]; rfl
      · rw [hf, hs]; rfl)
    (fun i => by rw [blk_7, V21]; exact poses_x _ _ _ _) (fun i => by rw [blk_7, V21]; exact poses_y _ _ _ _)
    (fun i => by rw [blk_7, V21]; exact poses_h _ _ _ _) (fun d => by rw [blk_8, V37]; exact freqRow_apply d)
    (fun l a b => by rw [blk_9, V_main_arg10]; rfl) (fun l a b => by rw [blk_10, V_main_arg11]; rfl) (fun l a b => by rw [blk_11, V_main_arg12]; rfl) (fun l a b => by rw [blk_12, V_main_arg13]; rfl) (fun l a b => by rw [blk_13, V_main_arg14]; rfl) (fun l a b => by rw [blk_14, V_main_arg15]; rfl) (fun l a b => by rw [blk_15, V_main_arg16]; rfl)
    (fun l b => by rw [blk_16, V38]; exact bias1_apply _ _ _) (fun l a b => by rw [blk_17, V_main_arg18]; rfl)
    (fun l b => by rw [blk_18, V39]; exact bias2_apply _ _ _) i d
  refine (cut_19 t _ _ i d).trans (ho.trans ((blend _ _ _).trans ?_))
  rfl

end Cert.Proof.KerValue

end
-- ==== Proof.Scatter.lean ====
/-
  Setting scatters read at an index: the last update that lands there, or what was there before.
-/
module

public import proofs.«01_k».proof.Proof.Gen.ReferenceIdeal.Read
public import proofs.«01_k».proof.Proof.Model
public import Idealize.ShloMosaic.Lib.Routing.OpsSet
public import Idealize.ShloMosaic.Lib.Routing.OpsPair
public import Idealize.ShloMosaic.Lib.ShapeFacts

@[expose] public section

noncomputable section

namespace Cert.Proof.Scatter

open Idealize.ShloMosaic Idealize.ShloMosaic.Routing Cert.ReferenceIdeal Cert.Proof.Spec
open scoped Classical

/-- Overwriting along a list that never overwrites leaves the start. -/
theorem fold_none {α β : Type} (p : β → Prop) [DecidablePred p] (f : β → α) (a : α) :
    ∀ l : List β, (∀ n ∈ l, ¬ p n) → l.foldl (fun a n => if p n then f n else a) a = a
  | [], _ => rfl
  | n :: l, h => by
    rw [List.foldl_cons, if_neg (h n List.mem_cons_self)]
    exact fold_none p f a l fun k hk => h k (List.mem_cons_of_mem _ hk)

/-- Overwriting along the numbers in order leaves the last overwriting value. -/
theorem fold_last {α : Type} {N : Nat} (p : Fin N → Prop) [DecidablePred p] (f : Fin N → α) (a : α) (n : Fin N) (hn : p n)
    (hmax : ∀ k, p k → k ≤ n) : (List.finRange N).foldl (fun a n => if p n then f n else a) a = f n := by
  obtain ⟨l1, l2, hl⟩ := List.append_of_mem (List.mem_finRange n)
  have hs : (List.finRange N).Pairwise (· < ·) := List.pairwise_lt_finRange N
  rw [hl, List.pairwise_append] at hs
  rw [hl, List.foldl_append, List.foldl_cons, if_pos hn]
  exact fold_none p f _ l2 fun k hk hp => absurd ((List.pairwise_cons.1 hs.2.1).1 k hk) (not_lt.2 (hmax k hp))

/-- A setting scatter holds at an index the last update that lands there. -/
theorem scatter_last {α : Type} {s si u : Shape} {w : Nat} (d : ScatterDims s si u) (x : s.Idx → α) (idx : IVec si w)
    (upd : u.Idx → α) (y : s.Idx) (k : u.Idx) (hk : d.resultIdx? k idx = some y)
    (hmax : ∀ k', d.resultIdx? k' idx = some y → (u.rowMajor k').val ≤ (u.rowMajor k).val) :
    Host.scatter d (fun _ b => b) x idx upd y = upd k := by
  rw [scatter_at]
  refine (fold_last (fun n => d.resultIdx? (u.rowMajor.symm n) idx = some y) (fun n => upd (u.rowMajor.symm n)) (x y)
    (u.rowMajor k) (by rw [Equiv.symm_apply_apply]; exact hk) fun n hn => ?_).trans (by rw [Equiv.symm_apply_apply])
  have := hmax _ hn
  rw [Equiv.apply_symm_apply] at this
  exact this

/-- The value of the last `k` with `P k`, or `x` where there is none. -/
def lastOr {α : Type} (P : Fin 64 → Prop) (v : Fin 64 → α) (x : α) : α :=
  if h : ∃ k, P k ∧ ∀ k', P k' → k' ≤ k then v h.choose else x

/-- At the last `k`. -/
theorem lastOr_of_last {α : Type} {P : Fin 64 → Prop} {k : Fin 64} (h : P k) (hm : ∀ k', P k' → k' ≤ k) (v : Fin 64 → α)
    (x : α) : lastOr P v x = v k := by
  have hex : ∃ k, P k ∧ ∀ k', P k' → k' ≤ k := ⟨k, h, hm⟩
  rw [lastOr, dif_pos hex, le_antisymm (hm _ hex.choose_spec.1) (hex.choose_spec.2 _ h)]

/-- Where there is none. -/
theorem lastOr_of_none {α : Type} {P : Fin 64 → Prop} (h : ¬ ∃ k, P k) (v : Fin 64 → α) (x : α) : lastOr P v x = x :=
  dif_neg fun ⟨k, hk, _⟩ => h ⟨k, hk⟩

/-- Where there is one, there is a last one. -/
theorem exists_max {P : Fin 64 → Prop} (h : ∃ k, P k) : ∃ k, P k ∧ ∀ k', P k' → k' ≤ k := by
  obtain ⟨k0, h0⟩ := h
  obtain ⟨k, hk, hm⟩ := Finset.exists_max_image (Finset.univ.filter P) id ⟨k0, by simpa using h0⟩
  exact ⟨k, by simpa using hk, fun k' h' => hm k' (by simpa using h')⟩

/-- The row of the `k`th edge of a batch element. -/
def row (b : Fin 4) (k : Fin 64) : Fin 256 := ⟨b.val * 64 + k.val, by omega⟩

/-- Every row is one. -/
theorem exists_row (r : Fin 256) : ∃ b k, r = row b k :=
  ⟨⟨r.val / 64, by omega⟩, ⟨r.val % 64, by omega⟩, Fin.ext (by show r.val = r.val / 64 * 64 + r.val % 64; omega)⟩

/-- The index array of a scatter names at the row of edge (b, k) the element b, the pair (F b k, G b k) and the slot s. -/
def Names (idx : IVec S256x4 32) (F G : Fin 4 → Fin 64 → Fin 128) (s : Fin 2) : Prop :=
  ∀ b k, (idx (ix2 (row b k) 0)).toInt = b.val ∧ (idx (ix2 (row b k) 1)).toInt = (F b k).val
    ∧ (idx (ix2 (row b k) 2)).toInt = (G b k).val ∧ (idx (ix2 (row b k) 3)).toInt = s.val

/-- Where a mask update lands. -/
theorem lands_mask (idx : IVec S256x4 32) (r : Fin 256) (b : Fin 4) (i j : Fin 128) (s : Fin 2) :
    scatter_S4x128x128x2_S256x4_S256_n_0123_0123_1.resultIdx? (ix1 r) idx = some (ix4 b i j s)
      ↔ (idx (ix2 r 0)).toInt = b.val ∧ (idx (ix2 r 1)).toInt = i.val ∧ (idx (ix2 r 2)).toInt = j.val
        ∧ (idx (ix2 r 3)).toInt = s.val := by
  rw [resultIdx?_eq_some]
  have h : ∀ a : Fin 4, scatter_S4x128x128x2_S256x4_S256_n_0123_0123_1.start (ix1 r) idx a
      + (scatter_S4x128x128x2_S256x4_S256_n_0123_0123_1.window (ix1 r) a : Int) = (idx (ix2 r a)).toInt := by
    intro a
    rw [ScatterDims.start, dif_pos (by revert a; decide), ScatterDims.window, dif_neg (by revert a; decide)]
    have : ∀ c : S256x4.Idx, c = ix2 r a → (idx c).toInt + ((0 : Nat) : Int) = (idx (ix2 r a)).toInt := by
      rintro _ rfl; simp
    apply this
    funext q
    match q with
    | ⟨0, _⟩ => rfl
    | ⟨1, _⟩ =>
      apply Fin.ext
      match a with
      | ⟨0, _⟩ => rfl
      | ⟨1, _⟩ => rfl
      | ⟨2, _⟩ => rfl
      | ⟨3, _⟩ => rfl
  constructor
  · intro q
    exact ⟨(h 0).symm.trans (q 0), (h 1).symm.trans (q 1), (h 2).symm.trans (q 2), (h 3).symm.trans (q 3)⟩
  · rintro ⟨q0, q1, q2, q3⟩ a
    refine (h a).trans ?_
    match a with
    | ⟨0, _⟩ => exact q0
    | ⟨1, _⟩ => exact q1
    | ⟨2, _⟩ => exact q2
    | ⟨3, _⟩ => exact q3

/-- Where an attribute update lands. -/
theorem lands_attr (idx : IVec S256x4 32) (r : Fin 256) (l : Fin 128) (b : Fin 4) (i j : Fin 128) (s : Fin 2) (d : Fin 128) :
    scatter_S4x128x128x2x128_S256x4_S256x128_1_0123_0123_1.resultIdx? (ix2 r l) idx = some (ix5 b i j s d)
      ↔ ((idx (ix2 r 0)).toInt = b.val ∧ (idx (ix2 r 1)).toInt = i.val ∧ (idx (ix2 r 2)).toInt = j.val
        ∧ (idx (ix2 r 3)).toInt = s.val) ∧ l = d := by
  rw [resultIdx?_eq_some]
  have h : ∀ a : Fin 4, scatter_S4x128x128x2x128_S256x4_S256x128_1_0123_0123_1.start (ix2 r l) idx a.castSucc
      + (scatter_S4x128x128x2x128_S256x4_S256x128_1_0123_0123_1.window (ix2 r l) a.castSucc : Int)
        = (idx (ix2 r a)).toInt := by
    intro a
    rw [ScatterDims.start, dif_pos (by revert a; decide), ScatterDims.window, dif_neg (by revert a; decide)]
    have : ∀ c : S256x4.Idx, c = ix2 r a → (idx c).toInt + ((0 : Nat) : Int) = (idx (ix2 r a)).toInt := by
      rintro _ rfl; simp
    apply this
    funext q
    match q with
    | ⟨0, _⟩ => rfl
    | ⟨1, _⟩ =>
      apply Fin.ext
      match a with
      | ⟨0, _⟩ => rfl
      | ⟨1, _⟩ => rfl
      | ⟨2, _⟩ => rfl
      | ⟨3, _⟩ => rfl
  have h4 : scatter_S4x128x128x2x128_S256x4_S256x128_1_0123_0123_1.start (ix2 r l) idx 4
      + (scatter_S4x128x128x2x128_S256x4_S256x128_1_0123_0123_1.window (ix2 r l) 4 : Int) = (l.val : Int) := by
    rw [ScatterDims.start, dif_neg (by decide), ScatterDims.window, dif_pos (by decide), zero_add]
    rfl
  constructor
  · intro q
    exact ⟨⟨(h 0).symm.trans (q 0), (h 1).symm.trans (q 1), (h 2).symm.trans (q 2), (h 3).symm.trans (q 3)⟩,
      Fin.ext (Int.natCast_inj.1 (h4.symm.trans (q 4)))⟩
  · rintro ⟨⟨q0, q1, q2, q3⟩, rfl⟩ a
    match a with
    | ⟨0, _⟩ => exact (h 0).trans q0
    | ⟨1, _⟩ => exact (h 1).trans q1
    | ⟨2, _⟩ => exact (h 2).trans q2
    | ⟨3, _⟩ => exact (h 3).trans q3
    | ⟨4, _⟩ => exact h4

/-- Which rows of an index array name an element, a pair and a slot. -/
theorem names_row {idx : IVec S256x4 32} {F G : Fin 4 → Fin 64 → Fin 128} {s : Fin 2} (h : Names idx F G s)
    (b' : Fin 4) (k : Fin 64) (b : Fin 4) (i j : Fin 128) (s' : Fin 2) :
    ((idx (ix2 (row b' k) 0)).toInt = b.val ∧ (idx (ix2 (row b' k) 1)).toInt = i.val
      ∧ (idx (ix2 (row b' k) 2)).toInt = j.val ∧ (idx (ix2 (row b' k) 3)).toInt = s'.val)
      ↔ b' = b ∧ (F b k = i ∧ G b k = j) ∧ s = s' := by
  obtain ⟨h0, h1, h2, h3⟩ := h b' k
  rw [h0, h1, h2, h3]
  simp only [Int.natCast_inj, Fin.val_inj]
  constructor
  · rintro ⟨rfl, e1, e2, e3⟩; exact ⟨rfl, ⟨e1, e2⟩, e3⟩
  · rintro ⟨rfl, ⟨e1, e2⟩, e3⟩; exact ⟨rfl, e1, e2, e3⟩

/-- A mask scatter, at an index: in its slot, the last update of the pair. -/
theorem mask_scatter {idx : IVec S256x4 32} {F G : Fin 4 → Fin 64 → Fin 128} {s : Fin 2} (h : Names idx F G s)
    (x : IVec S4x128x128x2 1) (upd : IVec S256 1) (b : Fin 4) (i j : Fin 128) (s' : Fin 2) :
    Host.scatter scatter_S4x128x128x2_S256x4_S256_n_0123_0123_1 (fun _ b => b) x idx upd (ix4 b i j s')
      = if s = s' then lastOr (fun k => F b k = i ∧ G b k = j) (fun k => upd (ix1 (row b k))) (x (ix4 b i j s'))
        else x (ix4 b i j s') := by
  have hl : ∀ b' k, scatter_S4x128x128x2_S256x4_S256_n_0123_0123_1.resultIdx? (ix1 (row b' k)) idx = some (ix4 b i j s')
      ↔ b' = b ∧ (F b k = i ∧ G b k = j) ∧ s = s' := fun b' k => (lands_mask idx _ b i j s').trans (names_row h b' k b i j s')
  by_cases hs : s = s' ∧ ∃ k, F b k = i ∧ G b k = j
  · obtain ⟨hs, hk⟩ := hs
    obtain ⟨k, hk, hm⟩ := exists_max hk
    rw [if_pos hs, lastOr_of_last hk hm]
    refine scatter_last _ _ _ _ _ _ ((hl b k).2 ⟨rfl, hk, hs⟩) fun u hu => ?_
    obtain ⟨r, rfl⟩ : ∃ r : Fin 256, u = ix1 r := ⟨u 0, eq_ix1 u⟩
    obtain ⟨b', k', rfl⟩ := exists_row r
    obtain ⟨rfl, hk', -⟩ := (hl b' k').1 hu
    have := hm k' hk'
    rw [Shape.rowMajor_val_one, Shape.rowMajor_val_one]
    show b'.val * 64 + k'.val ≤ b'.val * 64 + k.val
    have : k'.val ≤ k.val := this
    omega
  · rw [scatter_set_miss]
    · split
      · next h' => rw [lastOr_of_none fun hk => hs ⟨h', hk⟩]
      · rfl
    · intro u hu
      obtain ⟨r, rfl⟩ : ∃ r : Fin 256, u = ix1 r := ⟨u 0, eq_ix1 u⟩
      obtain ⟨b', k', rfl⟩ := exists_row r
      obtain ⟨rfl, hk', h'⟩ := (hl b' k').1 hu
      exact hs ⟨h', k', hk'⟩

/-- An attribute scatter, at an index: in its slot, the last update of the pair. -/
theorem attr_scatter {idx : IVec S256x4 32} {F G : Fin 4 → Fin 64 → Fin 128} {s : Fin 2} (h : Names idx F G s)
    (x : FVec Ideal S4x128x128x2x128 .f32) (upd : FVec Ideal S256x128 .f32) (b : Fin 4) (i j : Fin 128) (s' : Fin 2)
    (d : Fin 128) :
    Host.scatter scatter_S4x128x128x2x128_S256x4_S256x128_1_0123_0123_1 (fun _ b => b) x idx upd (ix5 b i j s' d)
      = if s = s' then lastOr (fun k => F b k = i ∧ G b k = j) (fun k => upd (ix2 (row b k) d)) (x (ix5 b i j s' d))
        else x (ix5 b i j s' d) := by
  have hl : ∀ b' k l, scatter_S4x128x128x2x128_S256x4_S256x128_1_0123_0123_1.resultIdx? (ix2 (row b' k) l) idx
      = some (ix5 b i j s' d) ↔ (b' = b ∧ (F b k = i ∧ G b k = j) ∧ s = s') ∧ l = d :=
    fun b' k l => (lands_attr idx _ l b i j s' d).trans (and_congr_left' (names_row h b' k b i j s'))
  by_cases hs : s = s' ∧ ∃ k, F b k = i ∧ G b k = j
  · obtain ⟨hs, hk⟩ := hs
    obtain ⟨k, hk, hm⟩ := exists_max hk
    rw [if_pos hs, lastOr_of_last hk hm]
    refine scatter_last _ _ _ _ _ _ ((hl b k d).2 ⟨⟨rfl, hk, hs⟩, rfl⟩) fun u hu => ?_
    obtain ⟨r, l, rfl⟩ : ∃ (r : Fin 256) (l : Fin 128), u = ix2 r l := ⟨u 0, u 1, eq_ix2 u⟩
    obtain ⟨b', k', rfl⟩ := exists_row r
    obtain ⟨⟨rfl, hk', -⟩, rfl⟩ := (hl b' k' l).1 hu
    have : k'.val ≤ k.val := hm k' hk'
    rw [Shape.rowMajor_val_two, Shape.rowMajor_val_two]
    show (b'.val * 64 + k'.val) * 128 + l.val ≤ (b'.val * 64 + k.val) * 128 + l.val
    omega
  · rw [scatter_set_miss]
    · split
      · next h' => rw [lastOr_of_none fun hk => hs ⟨h', hk⟩]
      · rfl
    · intro u hu
      obtain ⟨r, l, rfl⟩ : ∃ (r : Fin 256) (l : Fin 128), u = ix2 r l := ⟨u 0, u 1, eq_ix2 u⟩
      obtain ⟨b', k', rfl⟩ := exists_row r
      obtain ⟨⟨rfl, hk', h'⟩, -⟩ := (hl b' k' l).1 hu
      exact hs ⟨h', k', hk'⟩

end Cert.Proof.Scatter

end
-- ==== Proof.RefEdges.lean ====
/-
  The reference's edge arrays at an index: each slot of a pair holds the last edge that names the pair there.
-/
module

public import proofs.«01_k».proof.Proof.Scatter

@[expose] public section

noncomputable section

namespace Cert.Proof.RefEdges

open Idealize.ShloMosaic Cert.ReferenceIdeal Cert.ReferenceIdeal.Read Cert.Proof.Spec Cert.Proof.Scatter
open scoped BigOperators Classical

/-! ## Rows and words -/

/-- A row's batch element. -/
theorem row_div (b : Fin 4) (k : Fin 64) : (row b k).val / 64 = b.val := by
  show (b.val * 64 + k.val) / 64 = b.val
  omega

/-- A row's edge. -/
theorem row_mod (b : Fin 4) (k : Fin 64) : (row b k).val % 64 = k.val := by
  show (b.val * 64 + k.val) % 64 = k.val
  omega

/-- The signed value of a word in range. -/
theorem word_int {w : BitVec 32} (h : w.toNat < 128) : w.toInt = ((agent w).val : Int) := by
  rw [BitVec.toInt_eq_toNat_of_lt (by omega)]
  show (w.toNat : Int) = ((w.toNat % 128 : Nat) : Int)
  rw [Nat.mod_eq_of_lt h]

/-- The wrap of negative indices leaves a word in range. -/
theorem wrap_word {w : BitVec 32} (h : w.toNat < 128) (a : BitVec 32) :
    (Scalar.select (IntOp.cmpi .slt w 0#32) a w).toInt = ((agent w).val : Int) := by
  rw [show Scalar.select (IntOp.cmpi .slt w 0#32) a w = w from Routing.wrap_of_lt w a (by omega), word_int h]

/-- The wrap of negative indices leaves a batch element's number. -/
theorem wrap_batch (b : Fin 4) :
    (Scalar.select (IntOp.cmpi .slt (BitVec.ofNat 32 b.val) 0#32) (IntOp.addi (BitVec.ofNat 32 b.val) 4#32)
      (BitVec.ofNat 32 b.val)).toInt = (b.val : Int) := by
  revert b
  decide

/-! ## Lists joined -/

/-- An edge of the first list. -/
theorem joined_first {α : Type} (x y z : Fin 64 → α) (k : Fin 64) : joined x y z ⟨k.val, by omega⟩ = x k := by
  unfold joined
  rw [dif_pos (show k.val < 64 by omega)]

/-- An edge of the second list. -/
theorem joined_second {α : Type} (x y z : Fin 64 → α) (k : Fin 64) : joined x y z ⟨64 + k.val, by omega⟩ = y k := by
  unfold joined
  rw [dif_neg (show ¬ (64 + k.val < 64) by omega), dif_pos (show 64 + k.val - 64 < 64 by omega)]
  exact congrArg y (Fin.ext (show 64 + k.val - 64 = k.val by omega))

/-- An edge of the third list. -/
theorem joined_third {α : Type} (x y z : Fin 64 → α) (k : Fin 64) : joined x y z ⟨128 + k.val, by omega⟩ = z k := by
  unfold joined
  rw [dif_neg (show ¬ (128 + k.val < 64) by omega), dif_neg (show ¬ (128 + k.val - 64 < 64) by omega)]
  exact congrArg z (Fin.ext (show 128 + k.val - 64 - 64 = k.val by omega))

/-- An edge is of one of the three lists. -/
theorem edge_cases (e : Fin 192) : (∃ k : Fin 64, e = ⟨k.val, by omega⟩) ∨ (∃ k : Fin 64, e = ⟨64 + k.val, by omega⟩)
    ∨ ∃ k : Fin 64, e = ⟨128 + k.val, by omega⟩ := by
  by_cases h : e.val < 64
  · exact Or.inl ⟨⟨e.val, h⟩, rfl⟩
  · by_cases h' : e.val < 128
    · exact Or.inr (Or.inl ⟨⟨e.val - 64, by omega⟩, Fin.ext (show e.val = 64 + (e.val - 64) by omega)⟩)
    · exact Or.inr (Or.inr ⟨⟨e.val - 128, by omega⟩, Fin.ext (show e.val = 128 + (e.val - 128) by omega)⟩)

/-- An edge of the first list is in slot 0. -/
theorem slot_first (k : Fin 64) : slotOf ⟨k.val, by omega⟩ = 0 := if_pos (show k.val < 64 by omega)

/-- An edge of the second list is in slot 1. -/
theorem slot_second (k : Fin 64) : slotOf ⟨64 + k.val, by omega⟩ = 1 := if_neg (show ¬ (64 + k.val < 64) by omega)

/-- An edge of the third list is in slot 1. -/
theorem slot_third (k : Fin 64) : slotOf ⟨128 + k.val, by omega⟩ = 1 := if_neg (show ¬ (128 + k.val < 64) by omega)

section

variable (I J : Fin 192 → Fin 128) (i j : Fin 128)

/-- The first list's edges that name the pair. -/
def P1 (k : Fin 64) : Prop := I ⟨k.val, by omega⟩ = i ∧ J ⟨k.val, by omega⟩ = j
/-- The second list's edges that name the pair. -/
def P2 (k : Fin 64) : Prop := I ⟨64 + k.val, by omega⟩ = i ∧ J ⟨64 + k.val, by omega⟩ = j
/-- The third list's edges that name the pair. -/
def P3 (k : Fin 64) : Prop := I ⟨128 + k.val, by omega⟩ = i ∧ J ⟨128 + k.val, by omega⟩ = j

/-- Slot 0 holds something where a goal names the pair. -/
theorem in_slot0 : InSlot I J 0 i j ↔ ∃ k, P1 I J i j k := by
  constructor
  · rintro ⟨e, hs, hp⟩
    rcases edge_cases e with ⟨k, rfl⟩ | ⟨k, rfl⟩ | ⟨k, rfl⟩
    · exact ⟨k, hp⟩
    · rw [slot_second] at hs; exact absurd hs (by decide)
    · rw [slot_third] at hs; exact absurd hs (by decide)
  · rintro ⟨k, hk⟩; exact ⟨_, slot_first k, hk⟩

/-- Slot 1 holds something where a route names the pair, in either direction. -/
theorem in_slot1 : InSlot I J 1 i j ↔ (∃ k, P3 I J i j k) ∨ ∃ k, P2 I J i j k := by
  constructor
  · rintro ⟨e, hs, hp⟩
    rcases edge_cases e with ⟨k, rfl⟩ | ⟨k, rfl⟩ | ⟨k, rfl⟩
    · rw [slot_first] at hs; exact absurd hs (by decide)
    · exact Or.inr ⟨k, hp⟩
    · exact Or.inl ⟨k, hp⟩
  · rintro (⟨k, hk⟩ | ⟨k, hk⟩)
    · exact ⟨_, slot_third k, hk⟩
    · exact ⟨_, slot_second k, hk⟩

/-- Slot 0 holds the last goal's value. -/
theorem pick0 (f : Fin 192 → EReal) :
    lastOr (P1 I J i j) (fun k => f ⟨k.val, by omega⟩) 0 = pick I J 0 i j f := by
  by_cases h : ∃ k, P1 I J i j k
  · obtain ⟨k, hk, hm⟩ := exists_max h
    rw [lastOr_of_last hk hm, pick_of_last (e := ⟨k.val, by omega⟩)]
    refine ⟨slot_first k, hk.1, hk.2, fun e hs hi hj => ?_⟩
    rcases edge_cases e with ⟨k', rfl⟩ | ⟨k', rfl⟩ | ⟨k', rfl⟩
    · exact hm k' ⟨hi, hj⟩
    · rw [slot_second] at hs; exact absurd hs (by decide)
    · rw [slot_third] at hs; exact absurd hs (by decide)
  · rw [lastOr_of_none h, pick_of_none (fun h' => h ((in_slot0 I J i j).1 h'))]

/-- Slot 1 holds the last route's value, the third list's edges coming after the second's. -/
theorem pick1 (f : Fin 192 → EReal) :
    lastOr (P3 I J i j) (fun k => f ⟨128 + k.val, by omega⟩)
      (lastOr (P2 I J i j) (fun k => f ⟨64 + k.val, by omega⟩) 0) = pick I J 1 i j f := by
  by_cases h : ∃ k, P3 I J i j k
  · obtain ⟨k, hk, hm⟩ := exists_max h
    rw [lastOr_of_last hk hm, pick_of_last (e := ⟨128 + k.val, by omega⟩)]
    refine ⟨slot_third k, hk.1, hk.2, fun e hs hi hj => ?_⟩
    rcases edge_cases e with ⟨k', rfl⟩ | ⟨k', rfl⟩ | ⟨k', rfl⟩
    · rw [slot_first] at hs; exact absurd hs (by decide)
    · exact Fin.le_def.2 (show 64 + k'.val ≤ 128 + k.val by omega)
    · exact Fin.le_def.2 (show 128 + k'.val ≤ 128 + k.val from Nat.add_le_add_left (hm k' ⟨hi, hj⟩) 128)
  · rw [lastOr_of_none h]
    by_cases h2 : ∃ k, P2 I J i j k
    · obtain ⟨k, hk, hm⟩ := exists_max h2
      rw [lastOr_of_last hk hm, pick_of_last (e := ⟨64 + k.val, by omega⟩)]
      refine ⟨slot_second k, hk.1, hk.2, fun e hs hi hj => ?_⟩
      rcases edge_cases e with ⟨k', rfl⟩ | ⟨k', rfl⟩ | ⟨k', rfl⟩
      · rw [slot_first] at hs; exact absurd hs (by decide)
      · exact Fin.le_def.2 (show 64 + k'.val ≤ 64 + k.val from Nat.add_le_add_left (hm k' ⟨hi, hj⟩) 64)
      · exact absurd ⟨k', hi, hj⟩ h
    · rw [lastOr_of_none h2, pick_of_none (fun h' => ((in_slot1 I J i j).1 h').elim h h2)]

end

/-- Overwriting with ones sets the bit where there is an update or the bit was set. -/
theorem lastOr_one (P : Fin 64 → Prop) (v : Fin 64 → BitVec 1) (hv : ∀ k, v k = 1#1) (x : BitVec 1) :
    lastOr P v x = 1#1 ↔ (∃ k, P k) ∨ x = 1#1 := by
  by_cases h : ∃ k, P k
  · obtain ⟨k, hk, hm⟩ := exists_max h
    rw [lastOr_of_last hk hm, hv]
    exact ⟨fun _ => Or.inl h, fun _ => rfl⟩
  · rw [lastOr_of_none h]
    exact ⟨Or.inr, fun h' => h'.resolve_left h⟩

/-- The pairs of list 1 in an element. -/
theorem P1_element (E : Element) (i j : Fin 128) :
    P1 E.I E.J i j = fun k => agent (E.goal k) = i ∧ agent (E.goal k) = j := by
  funext k
  simp only [P1, Element.I, Element.J, Element.firstWord, Element.secondWord, Function.comp, joined_first]

/-- The attributes of list 1 in an element. -/
theorem attr_first (E : Element) (k : Fin 64) (d : Fin 128) : E.attr ⟨k.val, by omega⟩ d = E.goalAttr k d := by
  unfold Element.attr
  rw [joined_first]

/-- The pairs of list 2 in an element. -/
theorem P2_element (E : Element) (i j : Fin 128) :
    P2 E.I E.J i j = fun k => agent (E.source k) = i ∧ agent (E.target k) = j := by
  funext k
  simp only [P2, Element.I, Element.J, Element.firstWord, Element.secondWord, Function.comp, joined_second]

/-- The attributes of list 2 in an element. -/
theorem attr_second (E : Element) (k : Fin 64) (d : Fin 128) : E.attr ⟨64 + k.val, by omega⟩ d = E.routeAttr k ⟨d.val, by omega⟩ := by
  unfold Element.attr
  rw [joined_second]

/-- The pairs of list 3 in an element. -/
theorem P3_element (E : Element) (i j : Fin 128) :
    P3 E.I E.J i j = fun k => agent (E.target k) = i ∧ agent (E.source k) = j := by
  funext k
  simp only [P3, Element.I, Element.J, Element.firstWord, Element.secondWord, Function.comp, joined_third]

/-- The attributes of list 3 in an element. -/
theorem attr_third (E : Element) (k : Fin 64) (d : Fin 128) : E.attr ⟨128 + k.val, by omega⟩ d = E.routeAttr k ⟨128 + d.val, by omega⟩ := by
  unfold Element.attr
  rw [joined_third]

/-! ## The index arrays -/

/-- The index array `v34` names its edges. -/
theorem names34 (x4 : IVec S4x64x1 32) (h1 : ∀ b k, (x4 (ix3 b k 0)).toNat < 128) (h2 : ∀ b k, (x4 (ix3 b k 0)).toNat < 128) :
    Names (val_main_v34 (F := Ideal) x4) (fun b k => agent (x4 (ix3 b k 0))) (fun b k => agent (x4 (ix3 b k 0))) 0 := by
  intro b k
  have e0 : (val_main_v34 (F := Ideal) x4 (ix2 (row b k) 0)).toInt = (b.val : Int) := by
    pointwise [val_main_v34, val_main_v30, val_main_v17, val_main_v14, val_main_v4, val_main_v3, val_main_v2, val_main_v13, val_main_c_0, val_main_v16, val_main_v15, val_main_c_1]
    simp only [row_div, row_mod, Fin.eta]
    exact wrap_batch b
  have e1 : (val_main_v34 (F := Ideal) x4 (ix2 (row b k) 1)).toInt = ((agent (x4 (ix3 b k 0))).val : Int) := by
    pointwise [val_main_v34, val_main_v31, val_main_v22, val_main_v19, val_main_v6, val_main_v5, val_main_v18, val_main_c_2, val_main_v21, val_main_v20, val_main_c_3]
    simp only [row_div, row_mod, Fin.eta]
    exact wrap_word (h1 b k) _
  have e2 : (val_main_v34 (F := Ideal) x4 (ix2 (row b k) 2)).toInt = ((agent (x4 (ix3 b k 0))).val : Int) := by
    pointwise [val_main_v34, val_main_v32, val_main_v27, val_main_v24, val_main_v6, val_main_v5, val_main_v23, val_main_c_4, val_main_v26, val_main_v25, val_main_c_5]
    simp only [row_div, row_mod, Fin.eta]
    exact wrap_word (h2 b k) _
  have e3 : (val_main_v34 (F := Ideal) x4 (ix2 (row b k) 3)).toInt = (((0 : Fin 2).val : Nat) : Int) := by
    pointwise [val_main_v34, val_main_v33, val_main_v29, val_main_v28, val_main_c_6]
    first | rfl | decide
  exact ⟨e0, e1, e2, e3⟩

/-- The index array `v57` names its edges. -/
theorem names57 (x4 : IVec S4x64x1 32) (h1 : ∀ b k, (x4 (ix3 b k 0)).toNat < 128) (h2 : ∀ b k, (x4 (ix3 b k 0)).toNat < 128) :
    Names (val_main_v57 (F := Ideal) x4) (fun b k => agent (x4 (ix3 b k 0))) (fun b k => agent (x4 (ix3 b k 0))) 0 := by
  intro b k
  have e0 : (val_main_v57 (F := Ideal) x4 (ix2 (row b k) 0)).toInt = (b.val : Int) := by
    pointwise [val_main_v57, val_main_v53, val_main_v40, val_main_v37, val_main_v4, val_main_v3, val_main_v2, val_main_v36, val_main_c_7, val_main_v39, val_main_v38, val_main_c_8]
    simp only [row_div, row_mod, Fin.eta]
    exact wrap_batch b
  have e1 : (val_main_v57 (F := Ideal) x4 (ix2 (row b k) 1)).toInt = ((agent (x4 (ix3 b k 0))).val : Int) := by
    pointwise [val_main_v57, val_main_v54, val_main_v45, val_main_v42, val_main_v6, val_main_v5, val_main_v41, val_main_c_9, val_main_v44, val_main_v43, val_main_c_10]
    simp only [row_div, row_mod, Fin.eta]
    exact wrap_word (h1 b k) _
  have e2 : (val_main_v57 (F := Ideal) x4 (ix2 (row b k) 2)).toInt = ((agent (x4 (ix3 b k 0))).val : Int) := by
    pointwise [val_main_v57, val_main_v55, val_main_v50, val_main_v47, val_main_v6, val_main_v5, val_main_v46, val_main_c_11, val_main_v49, val_main_v48, val_main_c_12]
    simp only [row_div, row_mod, Fin.eta]
    exact wrap_word (h2 b k) _
  have e3 : (val_main_v57 (F := Ideal) x4 (ix2 (row b k) 3)).toInt = (((0 : Fin 2).val : Nat) : Int) := by
    pointwise [val_main_v57, val_main_v56, val_main_v52, val_main_v51, val_main_c_13]
    first | rfl | decide
  exact ⟨e0, e1, e2, e3⟩

/-- The index array `v99` names its edges. -/
theorem names99 (x7 : IVec S4x64x2 32) (h1 : ∀ b k, (x7 (ix3 b k 0)).toNat < 128) (h2 : ∀ b k, (x7 (ix3 b k 1)).toNat < 128) :
    Names (val_main_v99 (F := Ideal) x7) (fun b k => agent (x7 (ix3 b k 0))) (fun b k => agent (x7 (ix3 b k 1))) 1 := by
  intro b k
  have e0 : (val_main_v99 (F := Ideal) x7 (ix2 (row b k) 0)).toInt = (b.val : Int) := by
    pointwise [val_main_v99, val_main_v95, val_main_v82, val_main_v79, val_main_v4, val_main_v3, val_main_v2, val_main_v78, val_main_c_14, val_main_v81, val_main_v80, val_main_c_15]
    simp only [row_div, row_mod, Fin.eta]
    exact wrap_batch b
  have e1 : (val_main_v99 (F := Ideal) x7 (ix2 (row b k) 1)).toInt = ((agent (x7 (ix3 b k 0))).val : Int) := by
    pointwise [val_main_v99, val_main_v96, val_main_v87, val_main_v84, val_main_v61, val_main_v60, val_main_v59, val_main_v83, val_main_c_16, val_main_v86, val_main_v85, val_main_c_17]
    simp only [row_div, row_mod, Fin.eta]
    exact wrap_word (h1 b k) _
  have e2 : (val_main_v99 (F := Ideal) x7 (ix2 (row b k) 2)).toInt = ((agent (x7 (ix3 b k 1))).val : Int) := by
    pointwise [val_main_v99, val_main_v97, val_main_v92, val_main_v89, val_main_v64, val_main_v63, val_main_v62, val_main_v88, val_main_c_18, val_main_v91, val_main_v90, val_main_c_19]
    simp only [row_div, row_mod, Fin.eta]
    exact wrap_word (h2 b k) _
  have e3 : (val_main_v99 (F := Ideal) x7 (ix2 (row b k) 3)).toInt = (((1 : Fin 2).val : Nat) : Int) := by
    pointwise [val_main_v99, val_main_v98, val_main_v94, val_main_v93, val_main_c_20]
    first | rfl | decide
  exact ⟨e0, e1, e2, e3⟩

/-- The index array `v122` names its edges. -/
theorem names122 (x7 : IVec S4x64x2 32) (h1 : ∀ b k, (x7 (ix3 b k 1)).toNat < 128) (h2 : ∀ b k, (x7 (ix3 b k 0)).toNat < 128) :
    Names (val_main_v122 (F := Ideal) x7) (fun b k => agent (x7 (ix3 b k 1))) (fun b k => agent (x7 (ix3 b k 0))) 1 := by
  intro b k
  have e0 : (val_main_v122 (F := Ideal) x7 (ix2 (row b k) 0)).toInt = (b.val : Int) := by
    pointwise [val_main_v122, val_main_v118, val_main_v105, val_main_v102, val_main_v4, val_main_v3, val_main_v2, val_main_v101, val_main_c_21, val_main_v104, val_main_v103, val_main_c_22]
    simp only [row_div, row_mod, Fin.eta]
    exact wrap_batch b
  have e1 : (val_main_v122 (F := Ideal) x7 (ix2 (row b k) 1)).toInt = ((agent (x7 (ix3 b k 1))).val : Int) := by
    pointwise [val_main_v122, val_main_v119, val_main_v110, val_main_v107, val_main_v64, val_main_v63, val_main_v62, val_main_v106, val_main_c_23, val_main_v109, val_main_v108, val_main_c_24]
    simp only [row_div, row_mod, Fin.eta]
    exact wrap_word (h1 b k) _
  have e2 : (val_main_v122 (F := Ideal) x7 (ix2 (row b k) 2)).toInt = ((agent (x7 (ix3 b k 0))).val : Int) := by
    pointwise [val_main_v122, val_main_v120, val_main_v115, val_main_v112, val_main_v61, val_main_v60, val_main_v59, val_main_v111, val_main_c_25, val_main_v114, val_main_v113, val_main_c_26]
    simp only [row_div, row_mod, Fin.eta]
    exact wrap_word (h2 b k) _
  have e3 : (val_main_v122 (F := Ideal) x7 (ix2 (row b k) 3)).toInt = (((1 : Fin 2).val : Nat) : Int) := by
    pointwise [val_main_v122, val_main_v121, val_main_v117, val_main_v116, val_main_c_27]
    first | rfl | decide
  exact ⟨e0, e1, e2, e3⟩

/-- The index array `v145` names its edges. -/
theorem names145 (x7 : IVec S4x64x2 32) (h1 : ∀ b k, (x7 (ix3 b k 0)).toNat < 128) (h2 : ∀ b k, (x7 (ix3 b k 1)).toNat < 128) :
    Names (val_main_v145 (F := Ideal) x7) (fun b k => agent (x7 (ix3 b k 0))) (fun b k => agent (x7 (ix3 b k 1))) 1 := by
  intro b k
  have e0 : (val_main_v145 (F := Ideal) x7 (ix2 (row b k) 0)).toInt = (b.val : Int) := by
    pointwise [val_main_v145, val_main_v141, val_main_v128, val_main_v125, val_main_v4, val_main_v3, val_main_v2, val_main_v124, val_main_c_28, val_main_v127, val_main_v126, val_main_c_29]
    simp only [row_div, row_mod, Fin.eta]
    exact wrap_batch b
  have e1 : (val_main_v145 (F := Ideal) x7 (ix2 (row b k) 1)).toInt = ((agent (x7 (ix3 b k 0))).val : Int) := by
    pointwise [val_main_v145, val_main_v142, val_main_v133, val_main_v130, val_main_v61, val_main_v60, val_main_v59, val_main_v129, val_main_c_30, val_main_v132, val_main_v131, val_main_c_31]
    simp only [row_div, row_mod, Fin.eta]
    exact wrap_word (h1 b k) _
  have e2 : (val_main_v145 (F := Ideal) x7 (ix2 (row b k) 2)).toInt = ((agent (x7 (ix3 b k 1))).val : Int) := by
    pointwise [val_main_v145, val_main_v143, val_main_v138, val_main_v135, val_main_v64, val_main_v63, val_main_v62, val_main_v134, val_main_c_32, val_main_v137, val_main_v136, val_main_c_33]
    simp only [row_div, row_mod, Fin.eta]
    exact wrap_word (h2 b k) _
  have e3 : (val_main_v145 (F := Ideal) x7 (ix2 (row b k) 3)).toInt = (((1 : Fin 2).val : Nat) : Int) := by
    pointwise [val_main_v145, val_main_v144, val_main_v140, val_main_v139, val_main_c_34]
    first | rfl | decide
  exact ⟨e0, e1, e2, e3⟩

/-- The index array `v168` names its edges. -/
theorem names168 (x7 : IVec S4x64x2 32) (h1 : ∀ b k, (x7 (ix3 b k 1)).toNat < 128) (h2 : ∀ b k, (x7 (ix3 b k 0)).toNat < 128) :
    Names (val_main_v168 (F := Ideal) x7) (fun b k => agent (x7 (ix3 b k 1))) (fun b k => agent (x7 (ix3 b k 0))) 1 := by
  intro b k
  have e0 : (val_main_v168 (F := Ideal) x7 (ix2 (row b k) 0)).toInt = (b.val : Int) := by
    pointwise [val_main_v168, val_main_v164, val_main_v151, val_main_v148, val_main_v4, val_main_v3, val_main_v2, val_main_v147, val_main_c_35, val_main_v150, val_main_v149, val_main_c_36]
    simp only [row_div, row_mod, Fin.eta]
    exact wrap_batch b
  have e1 : (val_main_v168 (F := Ideal) x7 (ix2 (row b k) 1)).toInt = ((agent (x7 (ix3 b k 1))).val : Int) := by
    pointwise [val_main_v168, val_main_v165, val_main_v156, val_main_v153, val_main_v64, val_main_v63, val_main_v62, val_main_v152, val_main_c_37, val_main_v155, val_main_v154, val_main_c_38]
    simp only [row_div, row_mod, Fin.eta]
    exact wrap_word (h1 b k) _
  have e2 : (val_main_v168 (F := Ideal) x7 (ix2 (row b k) 2)).toInt = ((agent (x7 (ix3 b k 0))).val : Int) := by
    pointwise [val_main_v168, val_main_v166, val_main_v161, val_main_v158, val_main_v61, val_main_v60, val_main_v59, val_main_v157, val_main_c_39, val_main_v160, val_main_v159, val_main_c_40]
    simp only [row_div, row_mod, Fin.eta]
    exact wrap_word (h2 b k) _
  have e3 : (val_main_v168 (F := Ideal) x7 (ix2 (row b k) 3)).toInt = (((1 : Fin 2).val : Nat) : Int) := by
    pointwise [val_main_v168, val_main_v167, val_main_v163, val_main_v162, val_main_c_41]
    first | rfl | decide
  exact ⟨e0, e1, e2, e3⟩

/-! ## The updates -/

/-- One as a float. -/
theorem one_float : FloatOps.uitofp (F := Ideal) .f32 (1#1 : BitVec 1) = (1 : EReal) := by
  show (((1#1 : BitVec 1).toNat : ℝ) : EReal) = 1
  norm_num

/-- The goals' attributes, the masks being ones. -/
theorem upd12 (x2 : FVec Ideal S4x64x128 .f32) (x3 : IVec S4x64 1) (hm : ∀ b k, x3 (ix2 b k) = 1#1) (b : Fin 4) (k : Fin 64)
    (d : Fin 128) : val_main_v12 (F := Ideal) x2 x3 (ix2 (row b k) d) = x2 (ix3 b k d) := by
  pointwise [val_main_v12, val_main_v8, val_main_v11, val_main_v10, val_main_v9, val_main_v7]
  simp only [row_div, row_mod, Fin.eta, hm, one_float, mul_one]

/-- The routes' first attributes, the masks being ones. -/
theorem upd71 (x5 : FVec Ideal S4x64x256 .f32) (x6 : IVec S4x64 1) (hm : ∀ b k, x6 (ix2 b k) = 1#1) (b : Fin 4) (k : Fin 64)
    (d : Fin 128) : val_main_v71 (F := Ideal) x5 x6 (ix2 (row b k) d) = x5 (ix3 b k ⟨d.val, by omega⟩) := by
  pointwise [val_main_v71, val_main_v67, val_main_v66, val_main_v70, val_main_v69, val_main_v68, val_main_v65]
  simp only [row_div, row_mod, Fin.eta, hm, one_float, mul_one]

/-- The routes' second attributes, the masks being ones. -/
theorem upd77 (x5 : FVec Ideal S4x64x256 .f32) (x6 : IVec S4x64 1) (hm : ∀ b k, x6 (ix2 b k) = 1#1) (b : Fin 4) (k : Fin 64)
    (d : Fin 128) : val_main_v77 (F := Ideal) x5 x6 (ix2 (row b k) d) = x5 (ix3 b k ⟨128 + d.val, by omega⟩) := by
  pointwise [val_main_v77, val_main_v73, val_main_v72, val_main_v76, val_main_v75, val_main_v74, val_main_v65]
  simp only [row_div, row_mod, Fin.eta, hm, one_float, mul_one]

/-- The masks as updates: ones. -/
theorem upd7 (x3 : IVec S4x64 1) (hm : ∀ b k, x3 (ix2 b k) = 1#1) (b : Fin 4) (k : Fin 64) :
    val_main_v7 (F := Ideal) x3 (ix1 (row b k)) = 1#1 := by
  pointwise [val_main_v7]
  exact hm _ _

/-- The masks as updates: ones. -/
theorem upd65 (x6 : IVec S4x64 1) (hm : ∀ b k, x6 (ix2 b k) = 1#1) (b : Fin 4) (k : Fin 64) :
    val_main_v65 (F := Ideal) x6 (ix1 (row b k)) = 1#1 := by
  pointwise [val_main_v65]
  exact hm _ _

/-! ## The slots -/

/-- Nothing is held before the edges are written. -/
theorem zeros (i : S4x128x128x2x128.Idx) : val_main_v0 (F := Ideal) i = 0 := by
  rw [val_main_v0_apply]
  exact Ideal.ofBits_zero_f32

/-- No bit is set before the edges are written. -/
theorem unset (i : S4x128x128x2.Idx) : val_main_v1 (F := Ideal) i = 0#1 := by
  rw [val_main_v1_apply]
  rfl

section

variable (x0 : FVec Ideal S4x128x128 .f32) (x1 : IVec S4x128 1) (x2 : FVec Ideal S4x64x128 .f32) (x3 : IVec S4x64 1)
  (x4 : IVec S4x64x1 32) (x5 : FVec Ideal S4x64x256 .f32) (x6 : IVec S4x64 1) (x7 : IVec S4x64x2 32)
  (x8 : FVec Ideal S4x128x2 .f32) (x9 : FVec Ideal S4x128x1 .f32)

variable (E : Fin 4 → Element) (hE : E = element x0 x1 x2 x4 x5 x7 x8 x9) (hin : ∀ b, (E b).InRange) (h3 : ∀ b k, x3 (ix2 b k) = 1#1) (h6 : ∀ b k, x6 (ix2 b k) = 1#1)

include hE hin h3 h6

/-- The attributes held at a pair's slot. -/
theorem attrs_apply (b : Fin 4) (i j : Fin 128) (s : Fin 2) (d : Fin 128) :
    val_main_v123 (F := Ideal) x2 x3 x4 x5 x6 x7 (ix5 b i j s d) = pick (E b).I (E b).J s i j (fun e => (E b).attr e d) := by
  subst hE
  have a3 := attr_scatter (names122 x7 (fun b k => (hin b).2.2 k) (fun b k => (hin b).2.1 k))
    (val_main_v100 (F := Ideal) x2 x3 x4 x5 x6 x7) (val_main_v77 (F := Ideal) x5 x6) b i j s d
  have a2 := attr_scatter (names99 x7 (fun b k => (hin b).2.1 k) (fun b k => (hin b).2.2 k))
    (val_main_v35 (F := Ideal) x2 x3 x4) (val_main_v71 (F := Ideal) x5 x6) b i j s d
  have a1 := attr_scatter (names34 x4 (fun b k => (hin b).1 k) (fun b k => (hin b).1 k))
    (val_main_v0 (F := Ideal)) (val_main_v12 (F := Ideal) x2 x3) b i j s d
  simp only [upd77 x5 x6 h6] at a3
  simp only [upd71 x5 x6 h6] at a2
  simp only [upd12 x2 x3 h3, zeros] at a1
  refine a3.trans ?_
  rw [show val_main_v100 (F := Ideal) x2 x3 x4 x5 x6 x7 (ix5 b i j s d) = _ from a2,
    show val_main_v35 (F := Ideal) x2 x3 x4 (ix5 b i j s d) = _ from a1]
  rcases slot_cases s with rfl | rfl
  · rw [if_neg (by decide), if_neg (by decide), if_pos rfl, ← pick0]
    simp only [P1_element, attr_first]
    rfl
  · rw [if_pos rfl, if_pos rfl, if_neg (by decide), ← pick1]
    simp only [P2_element, P3_element, attr_second, attr_third]
    rfl

/-- The bits held at a pair's slot. -/
theorem bits_apply (b : Fin 4) (i j : Fin 128) (s : Fin 2) :
    val_main_v169 (F := Ideal) x3 x4 x6 x7 (ix4 b i j s) = 1#1 ↔ InSlot (E b).I (E b).J s i j := by
  subst hE
  have a3 := mask_scatter (names168 x7 (fun b k => (hin b).2.2 k) (fun b k => (hin b).2.1 k))
    (val_main_v146 (F := Ideal) x3 x4 x6 x7) (val_main_v65 (F := Ideal) x6) b i j s
  have a2 := mask_scatter (names145 x7 (fun b k => (hin b).2.1 k) (fun b k => (hin b).2.2 k))
    (val_main_v58 (F := Ideal) x3 x4) (val_main_v65 (F := Ideal) x6) b i j s
  have a1 := mask_scatter (names57 x4 (fun b k => (hin b).1 k) (fun b k => (hin b).1 k))
    (val_main_v1 (F := Ideal)) (val_main_v7 (F := Ideal) x3) b i j s
  refine (iff_of_eq (congrArg (· = 1#1) a3)).trans ?_
  rw [show val_main_v146 (F := Ideal) x3 x4 x6 x7 (ix4 b i j s) = _ from a2,
    show val_main_v58 (F := Ideal) x3 x4 (ix4 b i j s) = _ from a1]
  rcases slot_cases s with rfl | rfl
  · rw [if_neg (by decide), if_neg (by decide), if_pos rfl, lastOr_one _ _ (fun k => upd7 x3 h3 b k), unset, in_slot0]
    simp only [P1_element]
    exact or_iff_left (by decide)
  · rw [if_pos rfl, if_pos rfl, if_neg (by decide), lastOr_one _ _ (fun k => upd65 x6 h6 b k),
      lastOr_one _ _ (fun k => upd65 x6 h6 b k), unset, in_slot1]
    simp only [P2_element, P3_element]
    exact or_congr_right (or_iff_left (by decide))

end

end Cert.Proof.RefEdges

end
-- ==== Proof.RefRel.lean ====
/-
  The reference's relations at an index: which pairs an edge names, and the relation of such a pair.
-/
module

public import proofs.«01_k».proof.Proof.RefEdges
public import proofs.«01_k».proof.Proof.RelBody

@[expose] public section

noncomputable section

namespace Cert.Proof.RefRel

open Idealize.ShloMosaic Cert.ReferenceIdeal Cert.ReferenceIdeal.Read Cert.Proof.Spec Cert.Proof.Scatter Cert.Proof.RefEdges
open scoped BigOperators Classical

/-! ## Which pairs an edge names -/

/-- An edge is in slot 0 or in slot 1. -/
theorem hit_iff (I J : Fin 192 → Fin 128) (i j : Fin 128) : Hit I J i j ↔ InSlot I J 0 i j ∨ InSlot I J 1 i j := by
  constructor
  · rintro ⟨e, h⟩
    rcases slot_cases (slotOf e) with hs | hs
    · exact Or.inl ⟨e, hs, h⟩
    · exact Or.inr ⟨e, hs, h⟩
  · rintro (⟨e, -, h⟩ | ⟨e, -, h⟩) <;> exact ⟨e, h⟩

/-- A disjunction of two bits. -/
theorem fold_or (w : Fin 2 → BitVec 1) : Finset.fold IntOp.ori (0#1) w Finset.univ = 1#1 ↔ w 0 = 1#1 ∨ w 1 = 1#1 := by
  have : Finset.fold IntOp.ori (0#1) w Finset.univ = w 0 ||| w 1 := by
    rw [show (Finset.univ : Finset (Fin 2)) = {0, 1} from rfl, Finset.fold_insert (by decide), Finset.fold_singleton]
    show w 0 ||| (w 1 ||| 0#1) = w 0 ||| w 1
    rw [BitVec.or_zero]
  rw [this]
  generalize w 0 = a
  generalize w 1 = b
  revert a b
  decide

/-- The number of two bits that are set, at least one, as a float. -/
theorem fold_count (w : Fin 2 → BitVec 1) :
    (FloatOps.sitofp (F := Ideal) .f32 (IntOp.maxsi 1#32 (Finset.fold IntOp.addi (0#32) (fun x => (w x).setWidth 32) Finset.univ)) : EReal)
      = max ((if w 0 = 1#1 then (1 : EReal) else 0) + if w 1 = 1#1 then 1 else 0) 1 := by
  have : Finset.fold IntOp.addi (0#32) (fun x => (w x).setWidth 32) Finset.univ = (w 0).setWidth 32 + (w 1).setWidth 32 := by
    rw [show (Finset.univ : Finset (Fin 2)) = {0, 1} from rfl, Finset.fold_insert (by decide), Finset.fold_singleton]
    show (w 0).setWidth 32 + ((w 1).setWidth 32 + 0#32) = _
    rw [BitVec.add_zero]
  rw [this]
  generalize w 0 = a
  generalize w 1 = b
  have hs : ∀ v : BitVec 32, (FloatOps.sitofp (F := Ideal) .f32 v : EReal) = ((v.toInt : ℝ) : EReal) := fun _ => rfl
  rw [hs]
  rcases (by decide : ∀ w : BitVec 1, w = 0#1 ∨ w = 1#1) a with rfl | rfl <;>
    rcases (by decide : ∀ w : BitVec 1, w = 0#1 ∨ w = 1#1) b with rfl | rfl
  · rw [show (IntOp.maxsi 1#32 (BitVec.setWidth 32 0#1 + BitVec.setWidth 32 0#1)).toInt = 1 from by decide]
    norm_num
  · rw [show (IntOp.maxsi 1#32 (BitVec.setWidth 32 0#1 + BitVec.setWidth 32 1#1)).toInt = 1 from by decide]
    norm_num
  · rw [show (IntOp.maxsi 1#32 (BitVec.setWidth 32 1#1 + BitVec.setWidth 32 0#1)).toInt = 1 from by decide]
    norm_num
  · rw [show (IntOp.maxsi 1#32 (BitVec.setWidth 32 1#1 + BitVec.setWidth 32 1#1)).toInt = 2 from by decide]
    simp only [if_true]
    rw [one_add_one_eq_two, max_eq_left]
    · norm_num
      rfl
    · exact_mod_cast (by norm_num : (1 : ℝ) ≤ 2)

section

variable (x0 : FVec Ideal S4x128x128 .f32) (x1 : IVec S4x128 1) (x2 : FVec Ideal S4x64x128 .f32) (x3 : IVec S4x64 1)
  (x4 : IVec S4x64x1 32) (x5 : FVec Ideal S4x64x256 .f32) (x6 : IVec S4x64 1) (x7 : IVec S4x64x2 32)
  (x8 : FVec Ideal S4x128x2 .f32) (x9 : FVec Ideal S4x128x1 .f32)

/-! ## The geometry -/

/-- The bearing of a pair. -/
theorem bearing_apply (b : Fin 4) (i j : Fin 128) :
    val_main_v217 (F := Ideal) x8 x9 (ix3 b i j) = (element x0 x1 x2 x4 x5 x7 x8 x9 b).agents.bearing i j := by
  pointwise [val_main_v217, val_main_v213, val_main_v206, val_main_v205, val_main_v202, val_main_v201, val_main_v200, val_main_v184, val_main_v182, val_main_v180, val_main_v179, val_main_v183, val_main_v181, val_main_v204, val_main_v203, val_main_v189, val_main_v187, val_main_v185, val_main_v188, val_main_v186, val_main_v212, val_main_v211, val_main_v208, val_main_v207, val_main_v210, val_main_v209, val_main_v216, val_main_v215, val_main_v214, val_main_cst_49]
  rw [Fin.sum_univ_one, Fin.sum_univ_one]
  rfl

/-- The distance of a pair. -/
theorem dist_apply (b : Fin 4) (i j : Fin 128) :
    val_main_v218 (F := Ideal) x8 (ix3 b i j) = (element x0 x1 x2 x4 x5 x7 x8 x9 b).agents.dist i j := by
  pointwise [val_main_v218, val_main_call2_v1, val_main_call2_v0, val_main_v189, val_main_v187, val_main_v185, val_main_v188, val_main_v186, val_main_call2_cst]
  rw [Fin.sum_univ_two]
  rfl

/-- The difference of two headings. -/
theorem heading_apply (b : Fin 4) (i j : Fin 128) : val_main_v194 (F := Ideal) x9 (ix3 b i j) = x9 (ix3 b j 0) - x9 (ix3 b i 0) := by
  pointwise [val_main_v194, val_main_v192, val_main_v190, val_main_v179, val_main_v193, val_main_v191]

/-- Two bits differ where their exclusive or is set. -/
theorem bits_ne (a b : BitVec 1) : IntOp.cmpi .ne a b = IntOp.xori a b := by
  revert a b
  decide

/-- The turn of a pair. -/
theorem turn_apply (b : Fin 4) (i j : Fin 128) :
    val_main_v199 (F := Ideal) x9 (ix3 b i j) = (element x0 x1 x2 x4 x5 x7 x8 x9 b).agents.turn i j := by
  pointwise [val_main_v199, val_main_v197, val_main_call1_v10, val_main_call1_v9, val_main_call1_v6, val_main_call1_v2, val_main_v196, val_main_v195, val_main_cst_46, val_main_call1_v1, val_main_call1_v0, val_main_cst_47, val_main_call1_v5, val_main_call1_cst_0, val_main_call1_v8, val_main_call1_v7, val_main_call1_cst_1, val_main_call1_v4, val_main_call1_v3, val_main_call1_cst, val_main_call1_v12, val_main_call1_v11, val_main_v198, val_main_cst_48]
  rw [heading_apply]
  rw [show (id (constant (F := Ideal) S_ .f32 0x40C90FDB#32) ix0 : EReal) = Ideal.ofBits .f32 0x40C90FDB#32 from rfl, bits_ne]
  exact Body.wrap_select (x9 (ix3 b j 0) - x9 (ix3 b i 0))

/-- The frequencies. -/
theorem freq_apply (k : Fin 16) : val_main_v231 (F := Ideal) (ix1 k) = freq k := by
  pointwise [val_main_v231, val_main_v230, val_main_cst_52, val_main_v229, val_main_v227, val_main_v226, val_main_cst_50, val_main_v225, val_main_v224, val_main_v228, val_main_cst_51]
  rfl

/-- The code of a pair in a lane. -/
theorem code_apply (b : Fin 4) (i j d : Fin 128) :
    val_main_v241 (F := Ideal) x8 x9 (ix4 b i j d) = (element x0 x1 x2 x4 x5 x7 x8 x9 b).agents.code freq i j d := by
  pointwise [val_main_v241, val_main_v240, val_main_v238, val_main_v237, val_main_v235, val_main_v232, val_main_v223, val_main_v219, val_main_v220, val_main_v221, val_main_v222, val_main_v236, val_main_v234, val_main_v233, val_main_v239]
  simp only [id, freq_apply, bearing_apply x0 x1 x2 x4 x5 x7 x8 x9, dist_apply x0 x1 x2 x4 x5 x7 x8 x9,
    turn_apply x0 x1 x2 x4 x5 x7 x8 x9]
  unfold Agents.code Agents.feature Agents.feat Agents.slotIn
  generalize (element x0 x1 x2 x4 x5 x7 x8 x9 b).agents = A
  have hf : (if h : d.val / 32 < 1 then A.dist i j else if h : d.val / 32 - 1 < 1 then A.turn i j
      else if h : d.val / 32 - 1 - 1 < 1 then A.bearing i j else A.bearing i j)
      = if d.val / 32 = 0 then A.dist i j else if d.val / 32 = 1 then A.turn i j else A.bearing i j := by
    by_cases h0 : d.val / 32 = 0
    · rw [dif_pos (by omega), if_pos h0]
    · rw [dif_neg (by omega), if_neg h0]
      by_cases h1 : d.val / 32 = 1
      · rw [dif_pos (by omega), if_pos h1]
      · rw [dif_neg (by omega), if_neg h1]
        split <;> rfl
  rw [hf]
  split
  · congr 3; apply Fin.ext; show d.val % 32 = d.val % 16; omega
  · congr 3; apply Fin.ext; show d.val % 32 - 16 = d.val % 16; omega

/-! ## The relation -/

variable (E : Fin 4 → Element) (hE : E = element x0 x1 x2 x4 x5 x7 x8 x9) (hin : ∀ b, (E b).InRange)
  (h3 : ∀ b k, x3 (ix2 b k) = 1#1) (h6 : ∀ b k, x6 (ix2 b k) = 1#1)

include hE hin h3 h6

/-- The reference attends where an edge names the pair. -/
theorem hit_apply (b : Fin 4) (i j : Fin 128) :
    val_main_v178 (F := Ideal) x3 x4 x6 x7 (ix3 b i j) = 1#1 ↔ Hit (E b).I (E b).J i j := by
  have h := bits_apply x0 x1 x2 x3 x4 x5 x6 x7 x8 x9 E hE hin h3 h6 b i j
  rw [hit_iff, ← h 0, ← h 1, ← fold_or fun s => val_main_v169 (F := Ideal) x3 x4 x6 x7 (ix4 b i j s)]
  refine iff_of_eq (congrArg (· = 1#1) ?_)
  pointwise [val_main_v178, val_main_c_45]

/-- The relation of a pair that an edge names. -/
theorem relation_apply (b : Fin 4) (i j d : Fin 128) (hit : Hit (E b).I (E b).J i j) :
    val_main_v242 (F := Ideal) x2 x3 x4 x5 x6 x7 x8 x9 (ix4 b i j d)
      = relation (E b).I (E b).J (E b).attr (E b).agents freq i j d := by
  have hb := bits_apply x0 x1 x2 x3 x4 x5 x6 x7 x8 x9 E hE hin h3 h6 b i j
  have ha := fun s => attrs_apply x0 x1 x2 x3 x4 x5 x6 x7 x8 x9 E hE hin h3 h6 b i j s d
  have hc := code_apply x0 x1 x2 x4 x5 x7 x8 x9 b i j d
  have hp : val_main_v177 (F := Ideal) x2 x3 x4 x5 x6 x7 (ix4 b i j d) = pooled (E b).I (E b).J (fun e => (E b).attr e d) i j := by
    pointwise [val_main_v177, val_main_v170, val_main_cst_42, val_main_v176, val_main_v175, val_main_v174, val_main_v173, val_main_call0_v1, val_main_call0_v0, val_main_c_44, val_main_v172, val_main_v171, val_main_c_43]
    rw [Fin.sum_univ_two, ha, ha]
    refine (congrArg (Ideal.div _) (fold_count fun x => val_main_v169 (F := Ideal) x3 x4 x6 x7 (ix4 b i j x))).trans ?_
    rw [pooled, ← max_count hit, Spec.count, bit, bit]
    simp only [hb]
  rw [val_main_v242_apply, hp, hc, hE]
  rfl

end

end Cert.Proof.RefRel

end
-- ==== Proof.RefLayer.lean ====
/-
  The reference's layer at an index, over any state, relations and weights, and its two uses in the program.
-/
module

public import proofs.«01_k».proof.Proof.RefRel

@[expose] public section

noncomputable section

namespace Cert.Proof.RefLayer

open Idealize.ShloMosaic Cert.ReferenceIdeal Cert.ReferenceIdeal.Gen Cert.ReferenceIdeal.Read Cert.Proof.Spec
open scoped BigOperators Classical

/-! ## The layer's arrays -/

/-- A projection of the state. -/
def proj (x : FVec Ideal S4x128x128 .f32) (w : FVec Ideal S128x128 .f32) : FVec Ideal S4x128x128 .f32 :=
  Host.dotGeneral dot_S4x128x128_S128x128_S4x128x128_2_0_01_1_n_n none x w

/-- A projection of the state and of the relations, for every pair. -/
def pairs (x : FVec Ideal S4x128x128 .f32) (r : FVec Ideal S4x128x128x128 .f32) (w wr : FVec Ideal S128x128 .f32) :
    FVec Ideal S4x128x128x128 .f32 :=
  addf (broadcastInDim S4x128x128x128 ![0, 1, 2, 3] bcast_S4x1x128x128_S4x128x128x128_0_1_2_3
      (broadcastInDim S4x1x128x128 ![0, 2, 3] bcast_S4x128x128_S4x1x128x128_0_2_3 (proj x w)))
    (Host.dotGeneral dot_S4x128x128x128_S128x128_S4x128x128x128_3_0_012_1_n_n none r wr)

/-- The scores from keys and queries. -/
def scores (k : FVec Ideal S4x128x128x128 .f32) (q : FVec Ideal S4x128x128 .f32) : FVec Ideal S4x128x128x8 .f32 :=
  mulf (transpose S4x128x128x8 [0, 1, 3, 2]
      (Host.dotGeneral dot_S4x128x128x8x16_S4x128x8x16_S4x128x8x128_4_3_2_n_013_012 none
        (shapeCast S4x128x128x8x16 k shapeCasts_S4x128x128x128_S4x128x128x8x16 : FVec Ideal S4x128x128x8x16 .f32)
        (shapeCast S4x128x8x16 q shapeCasts_S4x128x128_S4x128x8x16 : FVec Ideal S4x128x8x16 .f32))
      transposes_S4x128x8x128_S4x128x128x8_0_1_3_2)
    (broadcastInDim S4x128x128x8 ![] bcast_S_S4x128x128x8 (constant S_ .f32 0x3E800000#32))

/-- The mask for every head. -/
def maskAll (em : IVec S4x128x128 1) : IVec S4x128x128x8 1 :=
  broadcastInDim S4x128x128x8 ![0, 1, 2, 3] bcast_S4x128x128x1_S4x128x128x8_0_1_2_3
    (broadcastInDim S4x128x128x1 ![0, 1, 2] bcast_S4x128x128_S4x128x128x1_0_1_2 em)

/-- The scores where the mask keeps them. -/
def masked (em : IVec S4x128x128 1) (s : FVec Ideal S4x128x128x8 .f32) : FVec Ideal S4x128x128x8 .f32 :=
  select (maskAll em) s (broadcastInDim S4x128x128x8 ![] bcast_S_S4x128x128x8 (id (constant S_ .f32 0xFF800000#32)))

/-- The unnormalized weights. -/
def probs (p : FVec Ideal S4x128x128x8 .f32) : FVec Ideal S4x128x128x8 .f32 :=
  Host.exp (subf p (broadcastInDim S4x128x128x8 ![0, 1, 2, 3] bcast_S4x128x1x8_S4x128x128x8_0_1_2_3
    (broadcastInDim S4x128x1x8 ![0, 1, 3] bcast_S4x128x8_S4x128x1x8_0_1_3
      (maximumf (broadcastInDim S4x128x8 ![] bcast_S_S4x128x8 (constant S_ .f32 0xFF800000#32))
        (Host.reduce FloatOps.maximumf p (constant S_ .f32 0xFF800000#32) reducesTo_S4x128x128x8_S4x128x8_d2 h_S_)))))

/-- The attention weights. -/
def atts (em : IVec S4x128x128 1) (z : FVec Ideal S4x128x128x8 .f32) : FVec Ideal S4x128x128x8 .f32 :=
  select (maskAll em)
    (Host.divf z (broadcastInDim S4x128x128x8 ![0, 1, 2, 3] bcast_S4x128x1x8_S4x128x128x8_0_1_2_3
      (broadcastInDim S4x128x1x8 ![0, 1, 3] bcast_S4x128x8_S4x128x1x8_0_1_3
        (Host.reduceAdd z (constant S_ .f32 0x00000000#32) reducesTo_S4x128x128x8_S4x128x8_d2 h_S_))))
    (broadcastInDim S4x128x128x8 ![] bcast_S_S4x128x128x8 (id (constant S_ .f32 0x00000000#32)))

/-- The attended values. -/
def aggs (a : FVec Ideal S4x128x128x8 .f32) (v : FVec Ideal S4x128x128x128 .f32) : FVec Ideal S4x128x128 .f32 :=
  shapeCast S4x128x128 (Host.dotGeneral dot_S4x128x128x8_S4x128x128x8x16_S4x128x8x16_2_2_n_4_013_013 none a
    (shapeCast S4x128x128x8x16 v shapeCasts_S4x128x128x128_S4x128x128x8x16 : FVec Ideal S4x128x128x8x16 .f32)
      : FVec Ideal S4x128x8x16 .f32) shapeCasts_S4x128x8x16_S4x128x128

/-- The means of the rows. -/
def means (y : FVec Ideal S4x128x128 .f32) : FVec Ideal S4x128x1 .f32 :=
  Host.divf (broadcastInDim S4x128x1 ![0, 1] bcast_S4x128_S4x128x1_0_1
      (Host.reduceAdd y (constant S_ .f32 0x00000000#32) reducesTo_S4x128x128_S4x128_d2 h_S_))
    (broadcastInDim S4x128x1 ![] bcast_S_S4x128x1 (constant S_ .f32 0x43000000#32))

/-- The rows less their means. -/
def centered (y : FVec Ideal S4x128x128 .f32) : FVec Ideal S4x128x128 .f32 :=
  subf y (broadcastInDim S4x128x128 ![0, 1, 2] bcast_S4x128x1_S4x128x128_0_1_2 (means y))

/-- The rows normalized. -/
def norms (y : FVec Ideal S4x128x128 .f32) : FVec Ideal S4x128x128 .f32 :=
  Host.divf (centered y) (broadcastInDim S4x128x128 ![0, 1, 2] bcast_S4x128x1_S4x128x128_0_1_2
    (Host.sqrt (addf (means (mulf (centered y) (centered y)))
      (broadcastInDim S4x128x1 ![] bcast_S_S4x128x1 (constant S_ .f32 0x3727C5AC#32)))))

/-- The hidden units. -/
def hiddens (n : FVec Ideal S4x128x128 .f32) (w : FVec Ideal S128x256 .f32) (b : FVec Ideal S256 .f32) :
    FVec Ideal S4x128x256 .f32 :=
  maximumf (addf (Host.dotGeneral dot_S4x128x128_S128x256_S4x128x256_2_0_01_1_n_n none n w)
      (broadcastInDim S4x128x256 ![0, 1, 2] bcast_S1x1x256_S4x128x256_0_1_2
        (broadcastInDim S1x1x256 ![2] bcast_S256_S1x1x256_2 b)))
    (broadcastInDim S4x128x256 ![] bcast_S_S4x128x256 (constant S_ .f32 0x00000000#32))

/-- The output of a layer from its attended state. -/
def outs (y : FVec Ideal S4x128x128 .f32) (h : FVec Ideal S4x128x256 .f32) (w : FVec Ideal S256x128 .f32)
    (b : FVec Ideal S128 .f32) : FVec Ideal S4x128x128 .f32 :=
  addf (addf y (Host.dotGeneral dot_S4x128x256_S256x128_S4x128x128_2_0_01_1_n_n none h w))
    (broadcastInDim S4x128x128 ![0, 1, 2] bcast_S1x1x128_S4x128x128_0_1_2
      (broadcastInDim S1x1x128 ![2] bcast_S128_S1x1x128_2 b))

/-- The state after attention. -/
def attendeds (x : FVec Ideal S4x128x128 .f32) (em : IVec S4x128x128 1) (r : FVec Ideal S4x128x128x128 .f32)
    (wq wk wv wkr wvr wo : FVec Ideal S128x128 .f32) : FVec Ideal S4x128x128 .f32 :=
  addf x (proj (aggs (atts em (probs (masked em (scores (pairs x r wk wkr) (proj x wq))))) (pairs x r wv wvr)) wo)

/-- A layer. -/
def layer (x : FVec Ideal S4x128x128 .f32) (em : IVec S4x128x128 1) (r : FVec Ideal S4x128x128x128 .f32)
    (wq wk wv wkr wvr wo : FVec Ideal S128x128 .f32) (w1 : FVec Ideal S128x256 .f32) (b1 : FVec Ideal S256 .f32)
    (w2 : FVec Ideal S256x128 .f32) (b2 : FVec Ideal S128 .f32) : FVec Ideal S4x128x128 .f32 :=
  outs (attendeds x em r wq wk wv wkr wvr wo) (hiddens (norms (attendeds x em r wq wk wv wkr wvr wo)) w1 b1) w2 b2

/-! ## Read at an index -/

/-- A bit selects. -/
theorem select_iff {c : BitVec 1} {p : Prop} (h : c = 1#1 ↔ p) (x y : EReal) : Scalar.select c x y = if p then x else y :=
  if_congr h rfl rfl

/-- The reference's −∞. -/
theorem lowest : (id (constant (F := Ideal) S_ .f32 0xFF800000#32) ix0 : EReal) = ⊥ := Scalars.ninf

/-- A zero. -/
theorem nought : (id (constant (F := Ideal) S_ .f32 0x00000000#32) ix0 : EReal) = 0 := Ideal.ofBits_zero_f32

section

variable {b : Fin 4} {X Y A : Mat 128 128} {W : Layer} {em : Fin 128 → Fin 128 → Prop}
  {rel : Fin 128 → Fin 128 → Fin 128 → EReal} {x : FVec Ideal S4x128x128 .f32} {m : IVec S4x128x128 1}
  {r : FVec Ideal S4x128x128x128 .f32} {w wr wq wk wv wkr wvr wo : FVec Ideal S128x128 .f32} {w1 : FVec Ideal S128x256 .f32}
  {b1 : FVec Ideal S256 .f32} {w2 : FVec Ideal S256x128 .f32} {b2 : FVec Ideal S128 .f32}

/-- A projection at an index. -/
theorem proj_apply {B : Mat 128 128} (hx : ∀ i d, x (ix3 b i d) = X i d) (hw : ∀ a d, w (ix2 a d) = B a d) (i d : Fin 128) :
    proj x w (ix3 b i d) = mm X B i d := by
  pointwise [proj]
  simp only [hx, hw]
  rfl

/-- A pair's projection at an index, where an edge names the pair. -/
theorem pairs_apply {B C : Mat 128 128} (hx : ∀ i d, x (ix3 b i d) = X i d) (hw : ∀ a d, w (ix2 a d) = B a d)
    (hwr : ∀ a d, wr (ix2 a d) = C a d) {i j : Fin 128} (hr : ∀ d, r (ix4 b i j d) = rel i j d) (d : Fin 128) :
    pairs x r w wr (ix4 b i j d) = mm X B j d + ∑ c, rel i j c * C c d := by
  rw [← proj_apply hx hw]
  pointwise [pairs]
  simp only [hr, hwr]

/-- The scores of a pair that an edge names. -/
theorem scores_apply (hx : ∀ i d, x (ix3 b i d) = X i d) (hq : ∀ a d, wq (ix2 a d) = W.Wq a d)
    (hk : ∀ a d, wk (ix2 a d) = W.Wk a d) (hkr : ∀ a d, wkr (ix2 a d) = W.Wkr a d) {i j : Fin 128}
    (hr : ∀ d, r (ix4 b i j d) = rel i j d) (h : Fin 8) :
    scores (pairs x r wk wkr) (proj x wq) (ix4 b i j h) = W.score X rel h i j := by
  have hp := fun i d => proj_apply hx hq i d
  have hk := fun d => pairs_apply hx hk hkr hr d
  generalize proj x wq = q at hp ⊢
  generalize pairs x r wk wkr = k at hk ⊢
  pointwise [scores]
  simp only [hp, hk]
  rfl

/-- The masked scores. -/
theorem masked_apply {s : FVec Ideal S4x128x128x8 .f32} {S : Mat 128 128} (hm : ∀ i j, m (ix3 b i j) = 1#1 ↔ em i j) {h : Fin 8}
    (hs : ∀ i j, em i j → s (ix4 b i j h) = S i j) (i j : Fin 128) :
    masked m s (ix4 b i j h) = if em i j then S i j else ⊥ := by
  pointwise [masked, maskAll]
  rw [select_iff (hm i j), lowest]
  split
  · next hij => exact hs i j hij
  · rfl

/-- The unnormalized weights. -/
theorem probs_apply {p : FVec Ideal S4x128x128x8 .f32} {S : Mat 128 128} {h : Fin 8}
    (hp : ∀ i j, p (ix4 b i j h) = if em i j then S i j else ⊥) (i j : Fin 128) :
    probs p (ix4 b i j h) = prob em S i j := by
  pointwise [probs]
  rw [Scalars.ninf, max_eq_right bot_le, hp]
  simp only [hp]
  rfl

/-- The attention weights. -/
theorem atts_apply {z : FVec Ideal S4x128x128x8 .f32} {S : Mat 128 128} (hm : ∀ i j, m (ix3 b i j) = 1#1 ↔ em i j) {h : Fin 8}
    (hz : ∀ i j, z (ix4 b i j h) = prob em S i j) (i j : Fin 128) : atts m z (ix4 b i j h) = att em S i j := by
  pointwise [atts, maskAll]
  rw [select_iff (hm i j), nought]
  simp only [hz]
  rfl

/-- The attended values. -/
theorem aggs_apply {a : FVec Ideal S4x128x128x8 .f32} {v : FVec Ideal S4x128x128x128 .f32}
    (ha : ∀ h i j, a (ix4 b i j h) = att em (W.score X rel h) i j)
    (hv : ∀ i j, em i j → ∀ d, v (ix4 b i j d) = W.val X rel i j d) (i d : Fin 128) :
    aggs a v (ix3 b i d) = W.agg X rel em i d := by
  have key : ∀ j, a (ix4 b i j (head d)) * v (ix4 b i j d)
      = att em (W.score X rel (head d)) i j * W.val X rel i j d := fun j => by
    rw [ha]
    by_cases hij : em i j
    · rw [hv i j hij]
    · rw [show att em (W.score X rel (head d)) i j = 0 from if_neg hij, zero_mul, zero_mul]
  show _ = ∑ j, att em (W.score X rel (head d)) i j * W.val X rel i j d
  rw [← Finset.sum_congr rfl fun j _ => key j]
  pointwise [aggs]
  rfl

/-- The state after attention. -/
theorem attendeds_apply (hx : ∀ i d, x (ix3 b i d) = X i d) (hm : ∀ i j, m (ix3 b i j) = 1#1 ↔ em i j)
    (hr : ∀ i j, em i j → ∀ d, r (ix4 b i j d) = rel i j d) (hq : ∀ a d, wq (ix2 a d) = W.Wq a d)
    (hk : ∀ a d, wk (ix2 a d) = W.Wk a d) (hv : ∀ a d, wv (ix2 a d) = W.Wv a d) (hkr : ∀ a d, wkr (ix2 a d) = W.Wkr a d)
    (hvr : ∀ a d, wvr (ix2 a d) = W.Wvr a d) (ho : ∀ a d, wo (ix2 a d) = W.Wo a d) (i d : Fin 128) :
    attendeds x m r wq wk wv wkr wvr wo (ix3 b i d) = attended W X (W.agg X rel em) i d := by
  have h1 := fun h => masked_apply (m := m) hm (h := h) (S := W.score X rel h)
    (s := scores (pairs x r wk wkr) (proj x wq)) fun i j hij => scores_apply hx hq hk hkr (hr i j hij) h
  have h3 := fun h => atts_apply hm fun i j => probs_apply (h1 h) i j
  have h4 := aggs_apply (v := pairs x r wv wvr) h3 fun i j hij d => pairs_apply hx hv hvr (hr i j hij) d
  exact congrArg₂ (· + ·) (hx i d) (proj_apply h4 ho i d)

variable {y n : FVec Ideal S4x128x128 .f32}

/-- The means. -/
theorem means_apply (hy : ∀ i d, y (ix3 b i d) = Y i d) (i : Fin 128) : means y (ix3 b i 0) = mean (Y i) := by
  pointwise [means]
  simp only [hy]
  rfl

/-- The rows less their means. -/
theorem centered_apply (hy : ∀ i d, y (ix3 b i d) = Y i d) (i d : Fin 128) :
    centered y (ix3 b i d) = Y i d - mean (Y i) := by
  rw [← means_apply hy, ← hy]
  pointwise [centered]

/-- The rows normalized. -/
theorem norms_apply (hy : ∀ i d, y (ix3 b i d) = Y i d) (i d : Fin 128) : norms y (ix3 b i d) = norm Y i d := by
  have hc := fun i d => centered_apply hy i d
  have hs := means_apply (y := mulf (centered y) (centered y))
    (Y := fun i c => (Y i c - mean (Y i)) * (Y i c - mean (Y i))) (fun i d => congrArg₂ (· * ·) (hc i d) (hc i d)) i
  pointwise [norms]
  rw [hs, hc]
  rfl

/-- The hidden units. -/
theorem hiddens_apply (hn : ∀ i d, n (ix3 b i d) = norm Y i d) (hw : ∀ a d, w1 (ix2 a d) = W.W1 a d)
    (hb : ∀ d, b1 (ix1 d) = W.b1 d) (i : Fin 128) (k : Fin 256) : hiddens n w1 b1 (ix3 b i k) = hidden W Y i k := by
  pointwise [hiddens]
  simp only [hn, hw, hb]
  rfl

/-- The layer's output. -/
theorem outs_apply {h : FVec Ideal S4x128x256 .f32} (hy : ∀ i d, y (ix3 b i d) = Y i d) (hh : ∀ i k, h (ix3 b i k) = hidden W Y i k)
    (hw : ∀ a d, w2 (ix2 a d) = W.W2 a d) (hb : ∀ d, b2 (ix1 d) = W.b2 d) (i d : Fin 128) :
    outs y h w2 b2 (ix3 b i d) = forward W Y i d := by
  pointwise [outs]
  simp only [hy, hh, hw, hb]
  rfl

/-- The layer, at an index. -/
theorem layer_apply (hx : ∀ i d, x (ix3 b i d) = X i d) (hm : ∀ i j, m (ix3 b i j) = 1#1 ↔ em i j)
    (hr : ∀ i j, em i j → ∀ d, r (ix4 b i j d) = rel i j d) (hq : ∀ a d, wq (ix2 a d) = W.Wq a d)
    (hk : ∀ a d, wk (ix2 a d) = W.Wk a d) (hv : ∀ a d, wv (ix2 a d) = W.Wv a d) (hkr : ∀ a d, wkr (ix2 a d) = W.Wkr a d)
    (hvr : ∀ a d, wvr (ix2 a d) = W.Wvr a d) (ho : ∀ a d, wo (ix2 a d) = W.Wo a d) (h1 : ∀ a d, w1 (ix2 a d) = W.W1 a d)
    (hb1 : ∀ d, b1 (ix1 d) = W.b1 d) (h2 : ∀ a d, w2 (ix2 a d) = W.W2 a d) (hb2 : ∀ d, b2 (ix1 d) = W.b2 d) (i d : Fin 128) :
    layer x m r wq wk wv wkr wvr wo w1 b1 w2 b2 (ix3 b i d) = W.next em rel X i d := by
  have ha := attendeds_apply hx hm hr hq hk hv hkr hvr ho
  exact outs_apply ha (hiddens_apply (norms_apply ha) h1 hb1) h2 hb2 i d

end

section

variable (x0 : FVec Ideal S4x128x128 .f32) (x2 : FVec Ideal S4x64x128 .f32) (x3 : IVec S4x64 1)
  (x4 : IVec S4x64x1 32) (x5 : FVec Ideal S4x64x256 .f32) (x6 : IVec S4x64 1) (x7 : IVec S4x64x2 32)
  (x8 : FVec Ideal S4x128x2 .f32) (x9 : FVec Ideal S4x128x1 .f32)
  (x10 x11 x12 x13 x14 x15 : FVec Ideal S2x128x128 .f32) (x16 : FVec Ideal S2x128x256 .f32)
  (x17 : FVec Ideal S2x256 .f32) (x18 : FVec Ideal S2x256x128 .f32) (x19 : FVec Ideal S2x128 .f32)

/-- The program's first layer is the layer on the state it is given. -/
theorem first_layer : val_main_v327 (F := Ideal) x0 x2 x3 x4 x5 x6 x7 x8 x9 x10 x11 x12 x13 x14 x15 x16 x17 x18 x19 = layer x0 (val_main_v178 (F := Ideal) x3 x4 x6 x7) (val_main_v242 (F := Ideal) x2 x3 x4 x5 x6 x7 x8 x9)
    (val_main_v244 (F := Ideal) x10) (val_main_v248 (F := Ideal) x11) (val_main_v258 (F := Ideal) x12) (val_main_v252 (F := Ideal) x13) (val_main_v262 (F := Ideal) x14) (val_main_v289 (F := Ideal) x15) (val_main_v311 (F := Ideal) x16) (val_main_v314 (F := Ideal) x17) (val_main_v320 (F := Ideal) x18) (val_main_v324 (F := Ideal) x19) := rfl

/-- The program's second layer is the layer on the first one's output. -/
theorem second_layer : val_main_v412 (F := Ideal) x0 x2 x3 x4 x5 x6 x7 x8 x9 x10 x11 x12 x13 x14 x15 x16 x17 x18 x19
    = layer (val_main_v327 (F := Ideal) x0 x2 x3 x4 x5 x6 x7 x8 x9 x10 x11 x12 x13 x14 x15 x16 x17 x18 x19) (val_main_v178 (F := Ideal) x3 x4 x6 x7) (val_main_v242 (F := Ideal) x2 x3 x4 x5 x6 x7 x8 x9)
    (val_main_v329 (F := Ideal) x10) (val_main_v333 (F := Ideal) x11) (val_main_v343 (F := Ideal) x12) (val_main_v337 (F := Ideal) x13) (val_main_v347 (F := Ideal) x14) (val_main_v374 (F := Ideal) x15) (val_main_v396 (F := Ideal) x16) (val_main_v399 (F := Ideal) x17) (val_main_v405 (F := Ideal) x18) (val_main_v409 (F := Ideal) x19) := rfl

/-! ## The two layers -/

variable (x1 : IVec S4x128 1) (E : Fin 4 → Element) (hE : E = element x0 x1 x2 x4 x5 x7 x8 x9) (hin : ∀ b, (E b).InRange)
  (h3 : ∀ b k, x3 (ix2 b k) = 1#1) (h6 : ∀ b k, x6 (ix2 b k) = 1#1)

include hE hin h3 h6

/-- The first layer's output, at an index. -/
theorem first_apply (b : Fin 4) (i d : Fin 128) :
    val_main_v327 (F := Ideal) x0 x2 x3 x4 x5 x6 x7 x8 x9 x10 x11 x12 x13 x14 x15 x16 x17 x18 x19 (ix3 b i d)
      = (layers x10 x11 x12 x13 x14 x15 x16 x17 x18 x19 0).next (Hit (E b).I (E b).J)
        (relation (E b).I (E b).J (E b).attr (E b).agents freq) (E b).X i d := by
  rw [first_layer]
  exact layer_apply (fun i d => by rw [hE]; rfl)
    (fun i j => RefRel.hit_apply x0 x1 x2 x3 x4 x5 x6 x7 x8 x9 E hE hin h3 h6 b i j)
    (fun i j hij d => RefRel.relation_apply x0 x1 x2 x3 x4 x5 x6 x7 x8 x9 E hE hin h3 h6 b i j d hij)
      (fun a d => by pointwise [val_main_v244, val_main_v243]; rfl)
      (fun a d => by pointwise [val_main_v248, val_main_v247]; rfl)
      (fun a d => by pointwise [val_main_v258, val_main_v257]; rfl)
      (fun a d => by pointwise [val_main_v252, val_main_v251]; rfl)
      (fun a d => by pointwise [val_main_v262, val_main_v261]; rfl)
      (fun a d => by pointwise [val_main_v289, val_main_v288]; rfl)
      (fun a d => by pointwise [val_main_v311, val_main_v310]; rfl)
      (fun d => by pointwise [val_main_v314, val_main_v313]; rfl)
      (fun a d => by pointwise [val_main_v320, val_main_v319]; rfl)
      (fun d => by pointwise [val_main_v324, val_main_v323]; rfl) i d

/-- The second layer's output, at an index. -/
theorem second_apply (b : Fin 4) (i d : Fin 128) :
    val_main_v412 (F := Ideal) x0 x2 x3 x4 x5 x6 x7 x8 x9 x10 x11 x12 x13 x14 x15 x16 x17 x18 x19 (ix3 b i d)
      = (layers x10 x11 x12 x13 x14 x15 x16 x17 x18 x19 1).next (Hit (E b).I (E b).J)
        (relation (E b).I (E b).J (E b).attr (E b).agents freq)
        ((layers x10 x11 x12 x13 x14 x15 x16 x17 x18 x19 0).next (Hit (E b).I (E b).J)
          (relation (E b).I (E b).J (E b).attr (E b).agents freq) (E b).X) i d := by
  rw [second_layer]
  exact layer_apply (fun i d => first_apply x0 x2 x3 x4 x5 x6 x7 x8 x9 x10 x11 x12 x13 x14 x15 x16 x17 x18 x19 x1 E hE hin h3 h6 b i d)
    (fun i j => RefRel.hit_apply x0 x1 x2 x3 x4 x5 x6 x7 x8 x9 E hE hin h3 h6 b i j)
    (fun i j hij d => RefRel.relation_apply x0 x1 x2 x3 x4 x5 x6 x7 x8 x9 E hE hin h3 h6 b i j d hij)
      (fun a d => by pointwise [val_main_v329, val_main_v328]; rfl)
      (fun a d => by pointwise [val_main_v333, val_main_v332]; rfl)
      (fun a d => by pointwise [val_main_v343, val_main_v342]; rfl)
      (fun a d => by pointwise [val_main_v337, val_main_v336]; rfl)
      (fun a d => by pointwise [val_main_v347, val_main_v346]; rfl)
      (fun a d => by pointwise [val_main_v374, val_main_v373]; rfl)
      (fun a d => by pointwise [val_main_v396, val_main_v395]; rfl)
      (fun d => by pointwise [val_main_v399, val_main_v398]; rfl)
      (fun a d => by pointwise [val_main_v405, val_main_v404]; rfl)
      (fun d => by pointwise [val_main_v409, val_main_v408]; rfl) i d

/-- The reference's result, at an index: the batch element's answer. -/
theorem result_apply (b : Fin 4) (i d : Fin 128) :
    val_main_v414 (F := Ideal) x0 x1 x2 x3 x4 x5 x6 x7 x8 x9 x10 x11 x12 x13 x14 x15 x16 x17 x18 x19 (ix3 b i d)
      = (E b).result (layers x10 x11 x12 x13 x14 x15 x16 x17 x18 x19) i d := by
  have h : val_main_v414 (F := Ideal) x0 x1 x2 x3 x4 x5 x6 x7 x8 x9 x10 x11 x12 x13 x14 x15 x16 x17 x18 x19 (ix3 b i d)
      = Scalar.select (val_main_call9_v0 (F := Ideal) x1 (ix3 b i d)) (val_main_v412 (F := Ideal) x0 x2 x3 x4 x5 x6 x7 x8 x9 x10 x11 x12 x13 x14 x15 x16 x17 x18 x19 (ix3 b i d))
        (x0 (ix3 b i d)) := rfl
  have hm : val_main_call9_v0 (F := Ideal) x1 (ix3 b i d) = 1#1 ↔ (E b).mask i = 1#1 := by
    rw [hE]
    pointwise [val_main_call9_v0, val_main_v413]
    rfl
  have hX : x0 (ix3 b i d) = (E b).X i d := by rw [hE]; rfl
  rw [h, second_apply x0 x2 x3 x4 x5 x6 x7 x8 x9 x10 x11 x12 x13 x14 x15 x16 x17 x18 x19 x1 E hE hin h3 h6, select_iff hm, hX]
  by_cases hp : (E b).mask i = 1#1
  · exact (if_pos hp).trans (if_pos hp).symm
  · exact (if_neg hp).trans (if_neg hp).symm

end

end Cert.Proof.RefLayer

end
-- ==== Proof.Drawn.lean ====
/-
  What the precondition says of the arguments: the goals' and the routes' masks are set, and the words that name agents
  are agents' numbers.
-/
module

public import proofs.«01_k».proof.Proof.Model
public import proofs.«01_k».proof.Proof.Gen.Pre_drawn_as_inputs

@[expose] public section

noncomputable section

namespace Cert.Proof.Drawn

open Idealize.ShloMosaic Cert.Pre_drawn_as_inputs Cert.Pre_drawn_as_inputs.Gen Cert.Proof.Spec

/-- Two bits are both set where their conjunction is. -/
theorem both {x y : BitVec 1} (h : IntOp.andi x y = 1#1) : x = 1#1 ∧ y = 1#1 := by
  revert x y; decide

/-- A word at least 0 and less than 128 as a signed number is so as a natural number. -/
theorem in_range {w : BitVec 32} (h0 : IntOp.cmpi .sge w 0#32 = 1#1) (h1 : IntOp.cmpi .slt w 128#32 = 1#1) : w.toNat < 128 := by
  have a : (0 : Int) ≤ w.toInt := by
    by_contra hn
    have e : IntOp.cmpi .sge w 0#32 = BitVec.ofBool (decide ((0#32).toInt ≤ w.toInt)) := rfl
    rw [e, show decide ((0#32 : BitVec 32).toInt ≤ w.toInt) = false from decide_eq_false hn] at h0
    exact absurd h0 (by decide)
  have b : w.toInt < 128 := by
    by_contra hn
    have e : IntOp.cmpi .slt w 128#32 = BitVec.ofBool (decide (w.toInt < (128#32).toInt)) := rfl
    rw [e, show decide (w.toInt < (128#32 : BitVec 32).toInt) = false from decide_eq_false hn] at h1
    exact absurd h1 (by decide)
  have hw := w.isLt
  rw [BitVec.toInt_eq_toNat_cond] at a b
  split at a <;> omega

variable (a0 : FVec Ideal S4x128x128 .f32) (a1 : IVec S4x128 1) (a2 : FVec Ideal S4x64x128 .f32) (a3 : IVec S4x64 1)
  (a4 : IVec S4x64x1 32) (a5 : FVec Ideal S4x64x256 .f32) (a6 : IVec S4x64 1) (a7 : IVec S4x64x2 32)
  (a8 : FVec Ideal S4x128x2 .f32) (a9 : FVec Ideal S4x128x1 .f32) (a10 a11 a12 a13 a14 a15 : FVec Ideal S2x128x128 .f32)
  (a16 : FVec Ideal S2x128x256 .f32) (a17 : FVec Ideal S2x256 .f32) (a18 : FVec Ideal S2x256x128 .f32)
  (a19 : FVec Ideal S2x128 .f32)

/-- The precondition at a goal or a route. -/
theorem fn_apply (b : Fin 4) (k : Fin 64) : fn a0 a1 a2 a3 a4 a5 a6 a7 a8 a9 a10 a11 a12 a13 a14 a15 a16 a17 a18 a19 (ix2 b k)
    = IntOp.andi (IntOp.andi (IntOp.andi (IntOp.andi (IntOp.andi (IntOp.andi (IntOp.andi (a3 (ix2 b k)) (a6 (ix2 b k)))
        (IntOp.cmpi .sge (a4 (ix3 b k 0)) 0#32)) (IntOp.cmpi .slt (a4 (ix3 b k 0)) 128#32))
        (IntOp.cmpi .sge (a7 (ix3 b k 0)) 0#32)) (IntOp.cmpi .slt (a7 (ix3 b k 0)) 128#32))
        (IntOp.cmpi .sge (a7 (ix3 b k 1)) 0#32)) (IntOp.cmpi .slt (a7 (ix3 b k 1)) 128#32) := by
  pointwise [fn, fn_part1]

/-- What the precondition says. -/
theorem drawn (h : fn a0 a1 a2 a3 a4 a5 a6 a7 a8 a9 a10 a11 a12 a13 a14 a15 a16 a17 a18 a19 = fun _ => 1#1) :
    (∀ b k, a3 (ix2 b k) = 1#1) ∧ (∀ b k, a6 (ix2 b k) = 1#1)
      ∧ ∀ b, (element a0 a1 a2 a4 a5 a7 a8 a9 b).InRange := by
  have key : ∀ b k, (a3 (ix2 b k) = 1#1 ∧ a6 (ix2 b k) = 1#1) ∧ (a4 (ix3 b k 0)).toNat < 128
      ∧ (a7 (ix3 b k 0)).toNat < 128 ∧ (a7 (ix3 b k 1)).toNat < 128 := fun b k => by
    have hk : fn a0 a1 a2 a3 a4 a5 a6 a7 a8 a9 a10 a11 a12 a13 a14 a15 a16 a17 a18 a19 (ix2 b k) = 1#1 := congrFun h _
    rw [fn_apply] at hk
    obtain ⟨hk, t1⟩ := both hk
    obtain ⟨hk, t0⟩ := both hk
    obtain ⟨hk, s1⟩ := both hk
    obtain ⟨hk, s0⟩ := both hk
    obtain ⟨hk, g1⟩ := both hk
    obtain ⟨hk, g0⟩ := both hk
    exact ⟨both hk, in_range g0 g1, in_range s0 s1, in_range t0 t1⟩
  exact ⟨fun b k => (key b k).1.1, fun b k => (key b k).1.2,
    fun b => ⟨fun k => (key b k).2.1, fun k => (key b k).2.2.1, fun k => (key b k).2.2.2⟩⟩

end Cert.Proof.Drawn

end
-- ==== Proof.lean ====
/- The kernel of v01 runs from any memory and leaves its arguments as they were, so do its ideal form and the
   reference; naming the mask is all that the ideal form changes; and on the arguments drawn as the inputs are, the ideal
   form's result is the reference's, element by element. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_drawn_as_inputs
public import proofs.«01_k».proof.Proof.KerValue
public import proofs.«01_k».proof.Proof.RefLayer
public import proofs.«01_k».proof.Proof.Drawn
public import Idealize.ShloMosaic.Adequacy
public import Idealize.ShloMosaic.Init

@[expose] public section

noncomputable section

namespace Cert.Proof

open Idealize.ShloMosaic Idealize.SL.Sem

/-- The kernel's ideal form runs from any memory and leaves its arguments as they were. -/
theorem ideal_frame : Cert.quiescent_KernelIdeal := fun m ρ _ => Cert.KernelIdeal.Gen.frame m ρ

/-- The reference runs from any memory and leaves its arguments as they were. -/
theorem reference_frame : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- On arguments drawn as the inputs are, the kernel's result array is what the reference computes from them. -/
theorem same_value (m : (ℓ : Loc Cert.KernelIdeal.nD Cert.KernelIdeal.τ Cert.KernelIdeal.sig) → Buf (Elt Ideal) ℓ)
    (hpre : Cert.Pre_KernelIdeal_drawn_as_inputs m) (c : Dev Cert.KernelIdeal.nD) :
    (Cert.KernelIdeal.Gen.dats m 0 c).arrAt 19 Cert.KernelIdeal.cfg0.N
      = Cert.ReferenceIdeal.Read.val_main_v414 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) := by
  obtain ⟨h3, h6, hin⟩ := Drawn.drawn _ _ _ _ _ _ _ _ _ _ _ _ _ _ _ _ _ _ _ _ (hpre c)
  funext i
  rw [eq_ix3 i]
  exact (KerValue.value m c hin ⟨(i 0).val, (i 0).isLt⟩ (i 1) (i 2)).trans
    (RefLayer.result_apply (E := KerValue.elem m c) (hE := rfl) (hin := hin) (h3 := h3) (h6 := h6) (b := i 0) (i := i 1)
      (d := i 2) (x10 := _) (x11 := _) (x12 := _) (x13 := _) (x14 := _) (x15 := _) (x16 := _) (x17 := _) (x18 := _)
      (x19 := _)).symm

/-- On arguments drawn as the inputs are, the kernel's ideal form and the reference end with equal results. -/
theorem algebraic : Cert.algebraic_KernelIdeal_ReferenceIdeal_pre_drawn_as_inputs := by
  intro m g m' g' hpre hagree
  refine ⟨fun c => (Cert.KernelIdeal.Gen.dats m 0 c).arrAt 19 Cert.KernelIdeal.cfg0.N,
    (θ_run _ _ _).mono (fun r h c => h c) (Cert.KernelIdeal.Value.run_blocks m g), ?_⟩
  refine (θ_run _ _ _).mono (fun r h c => ⟨(h c).1.trans ?_, (h c).2⟩) (Cert.ReferenceIdeal.Value.run (F := Ideal) m' g')
  rw [Cert.ReferenceIdeal.Read.val_main_v414_eq]
  obtain ⟨h0, h1, h2, h3, h4, h5, h6, h7, h8, h9, h10, h11, h12, h13, h14, h15, h16, h17, h18, h19⟩ := hagree c
  refine Eq.trans ?_ (same_value m hpre c).symm
  show Cert.ReferenceIdeal.Read.val_main_v414 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) = _
  rw [h0, h1, h2, h3, h4, h5, h6, h7, h8, h9, h10, h11, h12, h13, h14, h15, h16, h17, h18, h19]

/-- The frames of the kernel, of its ideal form and of the reference, the constant the ideal form names, and the value. -/
theorem claim : Cert.Claim := ⟨Cert.Kernel.Gen.facts, Cert.KernelIdeal.Gen.facts, Cert.ReferenceIdeal.Gen.facts,
  Cert.Pre_drawn_as_inputs.Gen.facts, fun m ρ _ => Cert.Kernel.Gen.frame m ρ, ideal_frame, fun m ρ _ => Cert.KernelIdeal.Gen.frame m ρ,
  reference_frame, fun m ρ _ => (θ_run _ _ _).mono (fun r h => ⟨fun c => (h c).2, sem_eq_zero_of_no_sems (by decide) r.2⟩)
    (Cert.ReferenceIdeal.Value.run (F := Ideal) m ρ),
  IdealRules.named_const.statement Cert.KernelIdeal.κ "mask" .f32 0xCE6E6B28#32 ⊥ rfl, algebraic⟩

end Cert.Proof

end
